-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v116) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S8x16384x80 : Shape := ⟨3, ![8, 16384, 80]⟩
abbrev S8x16384x4 : Shape := ⟨3, ![8, 16384, 4]⟩
abbrev S8x16384 : Shape := ⟨2, ![8, 16384]⟩
abbrev S131072 : Shape := ⟨1, ![131072]⟩
abbrev S131072x4 : Shape := ⟨2, ![131072, 4]⟩
abbrev S_ : Shape := ⟨0, ![]⟩

class Facts : Prop where
  bcast_S_S131072 : S_.BroadcastsInDim S131072 (![] : Fin 0 → Fin S131072.rank)
  reducesTo_S131072_S_d0 : S131072.ReducesTo [0] S_
  h_S_ : 0 < S_.numel
  reducesTo_S8x16384_S_d0_1 : S8x16384.ReducesTo [0, 1] S_

variable [Facts]

def fn {F : FTy → Type} [FloatOps F] (main_arg0 : FVec F S8x16384x80 .f32) (main_arg1 : FVec F S8x16384x4 .f32) (main_arg2 : IVec S8x16384 1) (main_arg3 : IVec S131072 32) (main_arg4 : FVec F S131072x4 .f32) : IVec S_ 1 :=
  let main_c : IVec S_ 32 := constantI S_ 32 0#32
  let main_v0 : IVec S131072 32 := broadcastInDim S131072 ![] bcast_S_S131072 main_c
  let main_v1 : IVec S131072 1 := cmpi .sge main_arg3 main_v0
  let main_c_0 : IVec S_ 1 := constantI S_ 1 1#1
  let main_v2 : IVec S_ 1 := (fun x v => Host.reduce IntOp.andi x v reducesTo_S131072_S_d0 h_S_) main_v1 main_c_0
  let main_c_1 : IVec S_ 1 := constantI S_ 1 0#1
  let main_v3 : IVec S_ 1 := (fun x v => Host.reduce IntOp.ori x v reducesTo_S8x16384_S_d0_1 h_S_) main_arg2 main_c_1
  let main_v4 : IVec S_ 1 := noti main_v3
  let main_v5 : IVec S_ 1 := andi main_v2 main_v4
  main_v5
-- ==== Kernel.lean ====
abbrev S8x16384x80 : Shape := ⟨3, ![8, 16384, 80]⟩
abbrev S8x16384x4 : Shape := ⟨3, ![8, 16384, 4]⟩
abbrev S8x16384 : Shape := ⟨2, ![8, 16384]⟩
abbrev S131072 : Shape := ⟨1, ![131072]⟩
abbrev S131072x4 : Shape := ⟨2, ![131072, 4]⟩
abbrev S131072x80 : Shape := ⟨2, ![131072, 80]⟩
abbrev S131072x1 : Shape := ⟨2, ![131072, 1]⟩
abbrev S4x131072 : Shape := ⟨2, ![4, 131072]⟩
abbrev S8x131072 : Shape := ⟨2, ![8, 131072]⟩
abbrev S1x1 : Shape := ⟨2, ![1, 1]⟩
abbrev S1024x80 : Shape := ⟨2, ![1024, 80]⟩
abbrev S1024x1 : Shape := ⟨2, ![1024, 1]⟩
abbrev S1x1024x80 : Shape := ⟨3, ![1, 1024, 80]⟩
abbrev S1 : Shape := ⟨1, ![1]⟩
abbrev S1x1x1 : Shape := ⟨3, ![1, 1, 1]⟩
abbrev S_ : Shape := ⟨0, ![]⟩
abbrev S32x2x16 : Shape := ⟨3, ![32, 2, 16]⟩
abbrev S8x4096 : Shape := ⟨2, ![8, 4096]⟩
abbrev S4096 : Shape := ⟨1, ![4096]⟩
abbrev S2x16 : Shape := ⟨2, ![2, 16]⟩
abbrev S16 : Shape := ⟨1, ![16]⟩
abbrev S1x16 : Shape := ⟨2, ![1, 16]⟩
abbrev S1x2x16 : Shape := ⟨3, ![1, 2, 16]⟩
abbrev S32x1x16 : Shape := ⟨3, ![32, 1, 16]⟩
abbrev S32x16 : Shape := ⟨2, ![32, 16]⟩

abbrev nBuf : Table → Nat
  | .hbm => 26
  | .local .tc .vmem => 4
  | .local .tc .smem => 1
  | .local .scVector .vmem => 3
  | _ => 0

abbrev bufTy : (tb : Table) → Fin (nBuf tb) → BufTy
  | .hbm, ⟨0, _⟩ => ⟨S8x16384x80, .f32⟩
  | .hbm, ⟨1, _⟩ => ⟨S8x16384x4, .f32⟩
  | .hbm, ⟨2, _⟩ => ⟨S8x16384, .i1⟩
  | .hbm, ⟨3, _⟩ => ⟨S131072, .i32⟩
  | .hbm, ⟨4, _⟩ => ⟨S131072x4, .f32⟩
  | .hbm, ⟨5, _⟩ => ⟨S131072x80, .f32⟩
  | .hbm, ⟨6, _⟩ => ⟨S131072x1, .i32⟩
  | .hbm, ⟨7, _⟩ => ⟨S131072x4, .f32⟩
  | .hbm, ⟨8, _⟩ => ⟨S4x131072, .f32⟩
  | .hbm, ⟨9, _⟩ => ⟨S4x131072, .f32⟩
  | .hbm, ⟨10, _⟩ => ⟨S8x131072, .f32⟩
  | .hbm, ⟨11, _⟩ => ⟨S1x1, .f32⟩
  | .hbm, ⟨12, _⟩ => ⟨S_, .f32⟩
  | .hbm, ⟨13, _⟩ => ⟨S32x2x16, .f32⟩
  | .hbm, ⟨14, _⟩ => ⟨S32x1x16, .f32⟩
  | .hbm, ⟨15, _⟩ => ⟨S32x16, .f32⟩
  | .hbm, ⟨16, _⟩ => ⟨S_, .f32⟩
  | .hbm, ⟨17, _⟩ => ⟨S_, .f32⟩
  | .hbm, ⟨18, _⟩ => ⟨S32x1x16, .f32⟩
  | .hbm, ⟨19, _⟩ => ⟨S32x16, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .local .tc .vmem, ⟨0, _⟩ => ⟨S1024x80, .f32⟩
  | .local .tc .vmem, ⟨1, _⟩ => ⟨S1024x80, .f32⟩
  | .local .tc .vmem, ⟨2, _⟩ => ⟨S1024x1, .i32⟩
  | .local .tc .vmem, ⟨3, _⟩ => ⟨S1024x1, .i32⟩
  | .local .tc .smem, ⟨0, _⟩ => ⟨S1x1, .f32⟩
  | .local .scVector .vmem, ⟨0, _⟩ => ⟨S8x4096, .f32⟩
  | .local .scVector .vmem, ⟨1, _⟩ => ⟨S4096, .i32⟩
  | .local .scVector .vmem, ⟨2, _⟩ => ⟨S2x16, .f32⟩
  | _, _ => ⟨S8x16384x80, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v5_scv : Ref sig .scVector := ⟨.hbm, 10, rfl⟩
abbrev main_arg3_scv : Ref sig .scVector := ⟨.hbm, 3, rfl⟩
abbrev main_v8_scv : Ref sig .scVector := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.smem, 0, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x80 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨2, ![2, 16], ![false, false]⟩

def k1_off1 (i : grid1.Coords) : Fin 2 → Nat :=
  let c0_i32_6_r0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  ![0, v2.toNat]
def k1_off2 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  ![v2.toNat]
@[reducible] def k1_t1_loop : Scf.Loop 32 :=
  let c0_i32 : BitVec 32 := 0#32
  let c256_i32 : BitVec 32 := 256#32
  let v7 : BitVec 32 := Scalar.addi c0_i32 c256_i32
  let c1_i32 : BitVec 32 := 1#32
  ⟨c0_i32, v7, c1_i32⟩
def k1_off3 (k1_t1 : Fin k1_t1_loop.trips) : Fin 2 → Nat :=
  let c0_i32_6 : BitVec 32 := 0#32
  let v18 : Index := Scalar.indexCast c0_i32_6
  let c0_i32 : BitVec 32 := 0#32
  let c1_i32 : BitVec 32 := 1#32
  let arg8 : BitVec 32 := Scf.iv c0_i32 c1_i32 k1_t1
  let c16_i32 : BitVec 32 := 16#32
  let v17 : BitVec 32 := Scalar.muli arg8 c16_i32
  let v19 : Index := Scalar.indexCast v17
  ![0, v19.toNat]
def k1_off4 (k1_t1 : Fin k1_t1_loop.trips) : Fin 2 → Nat :=
  let c1_i32_7 : BitVec 32 := 1#32
  let v22 : Index := Scalar.indexCast c1_i32_7
  let c0_i32 : BitVec 32 := 0#32
  let c1_i32 : BitVec 32 := 1#32
  let arg8 : BitVec 32 := Scf.iv c0_i32 c1_i32 k1_t1
  let c16_i32 : BitVec 32 := 16#32
  let v17 : BitVec 32 := Scalar.muli arg8 c16_i32
  let v23 : Index := Scalar.indexCast v17
  ![1, v23.toNat]
def k1_off5 (k1_t1 : Fin k1_t1_loop.trips) : Fin 2 → Nat :=
  let c2_i32_8 : BitVec 32 := 2#32
  let v26 : Index := Scalar.indexCast c2_i32_8
  let c0_i32 : BitVec 32 := 0#32
  let c1_i32 : BitVec 32 := 1#32
  let arg8 : BitVec 32 := Scf.iv c0_i32 c1_i32 k1_t1
  let c16_i32 : BitVec 32 := 16#32
  let v17 : BitVec 32 := Scalar.muli arg8 c16_i32
  let v27 : Index := Scalar.indexCast v17
  ![2, v27.toNat]
def k1_off6 (k1_t1 : Fin k1_t1_loop.trips) : Fin 2 → Nat :=
  let c3_i32 : BitVec 32 := 3#32
  let v30 : Index := Scalar.indexCast c3_i32
  let c0_i32 : BitVec 32 := 0#32
  let c1_i32 : BitVec 32 := 1#32
  let arg8 : BitVec 32 := Scf.iv c0_i32 c1_i32 k1_t1
  let c16_i32 : BitVec 32 := 16#32
  let v17 : BitVec 32 := Scalar.muli arg8 c16_i32
  let v31 : Index := Scalar.indexCast v17
  ![3, v31.toNat]
def k1_off7 (k1_t1 : Fin k1_t1_loop.trips) : Fin 2 → Nat :=
  let c4_i32 : BitVec 32 := 4#32
  let v34 : Index := Scalar.indexCast c4_i32
  let c0_i32 : BitVec 32 := 0#32
  let c1_i32 : BitVec 32 := 1#32
  let arg8 : BitVec 32 := Scf.iv c0_i32 c1_i32 k1_t1
  let c16_i32 : BitVec 32 := 16#32
  let v17 : BitVec 32 := Scalar.muli arg8 c16_i32
  let v35 : Index := Scalar.indexCast v17
  ![4, v35.toNat]
def k1_off8 (k1_t1 : Fin k1_t1_loop.trips) : Fin 2 → Nat :=
  let c5_i32 : BitVec 32 := 5#32
  let v38 : Index := Scalar.indexCast c5_i32
  let c0_i32 : BitVec 32 := 0#32
  let c1_i32 : BitVec 32 := 1#32
  let arg8 : BitVec 32 := Scf.iv c0_i32 c1_i32 k1_t1
  let c16_i32 : BitVec 32 := 16#32
  let v17 : BitVec 32 := Scalar.muli arg8 c16_i32
  let v39 : Index := Scalar.indexCast v17
  ![5, v39.toNat]
def k1_off9 (k1_t1 : Fin k1_t1_loop.trips) : Fin 2 → Nat :=
  let c6_i32 : BitVec 32 := 6#32
  let v42 : Index := Scalar.indexCast c6_i32
  let c0_i32 : BitVec 32 := 0#32
  let c1_i32 : BitVec 32 := 1#32
  let arg8 : BitVec 32 := Scf.iv c0_i32 c1_i32 k1_t1
  let c16_i32 : BitVec 32 := 16#32
  let v17 : BitVec 32 := Scalar.muli arg8 c16_i32
  let v43 : Index := Scalar.indexCast v17
  ![6, v43.toNat]
def k1_off10 (k1_t1 : Fin k1_t1_loop.trips) : Fin 2 → Nat :=
  let c7_i32 : BitVec 32 := 7#32
  let v46 : Index := Scalar.indexCast c7_i32
  let c0_i32 : BitVec 32 := 0#32
  let c1_i32 : BitVec 32 := 1#32
  let arg8 : BitVec 32 := Scf.iv c0_i32 c1_i32 k1_t1
  let c16_i32 : BitVec 32 := 16#32
  let v17 : BitVec 32 := Scalar.muli arg8 c16_i32
  let v47 : Index := Scalar.indexCast v17
  ![7, v47.toNat]
def k1_off11 (k1_t1 : Fin k1_t1_loop.trips) : Fin 1 → Nat :=
  let c0_i32 : BitVec 32 := 0#32
  let c1_i32 : BitVec 32 := 1#32
  let arg8 : BitVec 32 := Scf.iv c0_i32 c1_i32 k1_t1
  let c16_i32 : BitVec 32 := 16#32
  let v17 : BitVec 32 := Scalar.muli arg8 c16_i32
  let v50 : Index := Scalar.indexCast v17
  ![v50.toNat]
def k1_off12 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_6_r2 : BitVec 32 := 0#32
  let c0_i32_7_r2 : BitVec 32 := 0#32
  ![v1.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x16384x80 : Shape := ⟨3, ![8, 16384, 80]⟩
abbrev S8x16384x4 : Shape := ⟨3, ![8, 16384, 4]⟩
abbrev S8x16384 : Shape := ⟨2, ![8, 16384]⟩
abbrev S131072 : Shape := ⟨1, ![131072]⟩
abbrev S131072x4 : Shape := ⟨2, ![131072, 4]⟩
abbrev S131072x80 : Shape := ⟨2, ![131072, 80]⟩
abbrev S_ : Shape := ⟨0, ![]⟩
abbrev S131072x1 : Shape := ⟨2, ![131072, 1]⟩
abbrev S1x80 : Shape := ⟨2, ![1, 80]⟩
abbrev S131072x2 : Shape := ⟨2, ![131072, 2]⟩

abbrev nBuf : Space → Nat
  | .hbm => 162
  | .vmem => 0
  | .smem => 0
  | _ => 0

abbrev hbmTy0_0 (i : Nat) : BufTy := match i % 128 with
  | 0 => ⟨S8x16384x80, .f32⟩
  | 1 => ⟨S8x16384x4, .f32⟩
  | 2 => ⟨S8x16384, .i1⟩
  | 3 => ⟨S131072, .i32⟩
  | 4 => ⟨S131072x4, .f32⟩
  | 5 => ⟨S131072x80, .f32⟩
  | 6 => ⟨S131072x4, .f32⟩
  | 7 => ⟨S8x16384, .i1⟩
  | 8 => ⟨S131072, .i1⟩
  | 9 => ⟨S_, .i32⟩
  | 10 => ⟨S131072, .i32⟩
  | 11 => ⟨S131072, .i1⟩
  | 12 => ⟨S_, .i32⟩
  | 13 => ⟨S131072, .i32⟩
  | 14 => ⟨S131072, .i1⟩
  | 15 => ⟨S131072, .i1⟩
  | 16 => ⟨S131072, .i32⟩
  | 17 => ⟨S_, .i32⟩
  | 18 => ⟨S_, .i32⟩
  | 19 => ⟨S_, .f32⟩
  | 20 => ⟨S_, .f32⟩
  | 21 => ⟨S_, .f32⟩
  | 22 => ⟨S131072x1, .i1⟩
  | 23 => ⟨S131072x1, .i32⟩
  | 24 => ⟨S1x80, .i32⟩
  | 25 => ⟨S131072x80, .i32⟩
  | 26 => ⟨S131072x80, .i32⟩
  | 27 => ⟨S131072x80, .i1⟩
  | 28 => ⟨S131072x80, .f32⟩
  | 29 => ⟨S_, .f32⟩
  | 30 => ⟨S_, .f32⟩
  | 31 => ⟨S131072x80, .i1⟩
  | 32 => ⟨S131072x80, .f32⟩
  | 33 => ⟨S131072x80, .f32⟩
  | 34 => ⟨S_, .i32⟩
  | 35 => ⟨S131072, .i32⟩
  | 36 => ⟨S131072, .i1⟩
  | 37 => ⟨S131072, .i1⟩
  | 38 => ⟨S131072x80, .f32⟩
  | 39 => ⟨S131072x80, .f32⟩
  | 40 => ⟨S_, .f32⟩
  | 41 => ⟨S131072x80, .f32⟩
  | 42 => ⟨S131072x80, .f32⟩
  | 43 => ⟨S_, .f32⟩
  | 44 => ⟨S131072x80, .f32⟩
  | 45 => ⟨S131072x80, .f32⟩
  | 46 => ⟨S_, .f32⟩
  | 47 => ⟨S131072x80, .f32⟩
  | 48 => ⟨S131072x80, .f32⟩
  | 49 => ⟨S131072x80, .f32⟩
  | 50 => ⟨S131072x80, .f32⟩
  | 51 => ⟨S131072x80, .f32⟩
  | 52 => ⟨S131072x80, .f32⟩
  | 53 => ⟨S131072x80, .f32⟩
  | 54 => ⟨S131072x80, .f32⟩
  | 55 => ⟨S131072x80, .f32⟩
  | 56 => ⟨S131072x80, .f32⟩
  | 57 => ⟨S_, .f32⟩
  | 58 => ⟨S131072x80, .f32⟩
  | 59 => ⟨S131072x80, .f32⟩
  | 60 => ⟨S_, .f32⟩
  | 61 => ⟨S131072x80, .f32⟩
  | 62 => ⟨S131072x80, .f32⟩
  | 63 => ⟨S131072x80, .f32⟩
  | 64 => ⟨S131072x80, .f32⟩
  | 65 => ⟨S_, .f32⟩
  | 66 => ⟨S131072x80, .f32⟩
  | 67 => ⟨S131072x80, .f32⟩
  | 68 => ⟨S_, .f32⟩
  | 69 => ⟨S131072x80, .f32⟩
  | 70 => ⟨S131072x80, .f32⟩
  | 71 => ⟨S131072x80, .f32⟩
  | 72 => ⟨S_, .f32⟩
  | 73 => ⟨S131072x80, .f32⟩
  | 74 => ⟨S131072x80, .f32⟩
  | 75 => ⟨S_, .f32⟩
  | 76 => ⟨S131072x80, .f32⟩
  | 77 => ⟨S131072x80, .f32⟩
  | 78 => ⟨S_, .f32⟩
  | 79 => ⟨S131072x80, .f32⟩
  | 80 => ⟨S131072x80, .f32⟩
  | 81 => ⟨S131072x80, .f32⟩
  | 82 => ⟨S131072x80, .f32⟩
  | 83 => ⟨S131072x1, .i1⟩
  | 84 => ⟨S_, .f32⟩
  | 85 => ⟨S_, .f32⟩
  | 86 => ⟨S131072x80, .i1⟩
  | 87 => ⟨S131072x80, .f32⟩
  | 88 => ⟨S131072x80, .f32⟩
  | 89 => ⟨S_, .f32⟩
  | 90 => ⟨S_, .f32⟩
  | 91 => ⟨S_, .f32⟩
  | 92 => ⟨S131072x1, .f32⟩
  | 93 => ⟨S131072, .f32⟩
  | 94 => ⟨S131072x1, .f32⟩
  | 95 => ⟨S131072, .f32⟩
  | 96 => ⟨S131072, .f32⟩
  | 97 => ⟨S131072x1, .f32⟩
  | 98 => ⟨S131072, .f32⟩
  | 99 => ⟨S131072x1, .f32⟩
  | 100 => ⟨S131072, .f32⟩
  | 101 => ⟨S131072, .f32⟩
  | 102 => ⟨S131072, .f32⟩
  | 103 => ⟨S131072x1, .f32⟩
  | 104 => ⟨S131072, .f32⟩
  | 105 => ⟨S131072x1, .f32⟩
  | 106 => ⟨S131072, .f32⟩
  | 107 => ⟨S131072, .f32⟩
  | 108 => ⟨S131072x1, .f32⟩
  | 109 => ⟨S131072, .f32⟩
  | 110 => ⟨S131072x1, .f32⟩
  | 111 => ⟨S131072, .f32⟩
  | 112 => ⟨S131072, .f32⟩
  | 113 => ⟨S131072, .f32⟩
  | 114 => ⟨S131072x2, .f32⟩
  | 115 => ⟨S131072x2, .f32⟩
  | 116 => ⟨S131072x2, .f32⟩
  | 117 => ⟨S131072x2, .f32⟩
  | 118 => ⟨S131072x2, .f32⟩
  | 119 => ⟨S131072x2, .f32⟩
  | 120 => ⟨S131072x2, .f32⟩
  | 121 => ⟨S_, .f32⟩
  | 122 => ⟨S_, .f32⟩
  | 123 => ⟨S131072x2, .f32⟩
  | 124 => ⟨S131072x2, .f32⟩
  | 125 => ⟨S131072x1, .f32⟩
  | 126 => ⟨S131072, .f32⟩
  | 127 => ⟨S131072x1, .f32⟩
  | _ => ⟨S8x16384x80, .f32⟩

abbrev hbmTy0_1 (i : Nat) : BufTy := match i % 128 with
  | 0 => ⟨S131072, .f32⟩
  | 1 => ⟨S131072, .f32⟩
  | 2 => ⟨S131072, .f32⟩
  | 3 => ⟨S131072, .f32⟩
  | 4 => ⟨S131072, .f32⟩
  | 5 => ⟨S131072x2, .f32⟩
  | 6 => ⟨S131072x2, .f32⟩
  | 7 => ⟨S131072x2, .f32⟩
  | 8 => ⟨S131072x2, .f32⟩
  | 9 => ⟨S131072x2, .f32⟩
  | 10 => ⟨S131072x2, .f32⟩
  | 11 => ⟨S131072x2, .f32⟩
  | 12 => ⟨S_, .f32⟩
  | 13 => ⟨S_, .f32⟩
  | 14 => ⟨S131072x2, .f32⟩
  | 15 => ⟨S131072x2, .f32⟩
  | 16 => ⟨S131072x1, .f32⟩
  | 17 => ⟨S131072, .f32⟩
  | 18 => ⟨S131072x1, .f32⟩
  | 19 => ⟨S131072, .f32⟩
  | 20 => ⟨S131072, .f32⟩
  | 21 => ⟨S131072, .f32⟩
  | 22 => ⟨S131072, .f32⟩
  | 23 => ⟨S131072, .f32⟩
  | 24 => ⟨S_, .f32⟩
  | 25 => ⟨S131072, .f32⟩
  | 26 => ⟨S131072, .f32⟩
  | 27 => ⟨S_, .f32⟩
  | 28 => ⟨S_, .f32⟩
  | 29 => ⟨S131072, .f32⟩
  | 30 => ⟨S131072, .f32⟩
  | 31 => ⟨S_, .f32⟩
  | 32 => ⟨S_, .f32⟩
  | 33 => ⟨S_, .f32⟩
  | _ => ⟨S8x16384x80, .f32⟩

abbrev hbmTy (i : Nat) : BufTy := match i / 128 with
  | 0 => hbmTy0_0 i
  | 1 => hbmTy0_1 i
  | _ => ⟨S8x16384x80, .f32⟩

abbrev bufTy : (tb : Table) → Fin (tcTables nBuf tb) → BufTy
  | .hbm, ⟨i, _⟩ => hbmTy i
  | _, _ => ⟨S8x16384x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v14 : Ref sig .tc := ⟨.hbm, 28, rfl⟩
abbrev main_cst_2 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v15 : Ref sig .tc := ⟨.hbm, 33, rfl⟩
abbrev main_c_3 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_4 : Ref sig .tc := ⟨.hbm, 40, rfl⟩
abbrev main_v21 : Ref sig .tc := ⟨.hbm, 41, rfl⟩
abbrev main_v22 : Ref sig .tc := ⟨.hbm, 42, rfl⟩
abbrev main_cst_5 : Ref sig .tc := ⟨.hbm, 43, rfl⟩
abbrev main_v23 : Ref sig .tc := ⟨.hbm, 44, rfl⟩
abbrev main_v24 : Ref sig .tc := ⟨.hbm, 45, rfl⟩
abbrev main_cst_6 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_7 : Ref sig .tc := ⟨.hbm, 57, rfl⟩
abbrev main_v35 : Ref sig .tc := ⟨.hbm, 58, rfl⟩
abbrev main_v36 : Ref sig .tc := ⟨.hbm, 59, rfl⟩
abbrev main_cst_8 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_9 : Ref sig .tc := ⟨.hbm, 65, rfl⟩
abbrev main_v41 : Ref sig .tc := ⟨.hbm, 66, rfl⟩
abbrev main_v42 : Ref sig .tc := ⟨.hbm, 67, rfl⟩
abbrev main_cst_10 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_11 : Ref sig .tc := ⟨.hbm, 72, rfl⟩
abbrev main_v46 : Ref sig .tc := ⟨.hbm, 73, rfl⟩
abbrev main_v47 : Ref sig .tc := ⟨.hbm, 74, rfl⟩
abbrev main_cst_12 : Ref sig .tc := ⟨.hbm, 75, rfl⟩
abbrev main_v48 : Ref sig .tc := ⟨.hbm, 76, rfl⟩
abbrev main_v49 : Ref sig .tc := ⟨.hbm, 77, rfl⟩
abbrev main_cst_13 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_14 : Ref sig .tc := ⟨.hbm, 84, rfl⟩
abbrev main_call2_v0 : Ref sig .tc := ⟨.hbm, 85, rfl⟩
abbrev main_call2_v1 : Ref sig .tc := ⟨.hbm, 86, rfl⟩
abbrev main_call2_v2 : Ref sig .tc := ⟨.hbm, 87, rfl⟩
abbrev main_v55 : Ref sig .tc := ⟨.hbm, 88, rfl⟩
abbrev main_cst_15 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_cst_16 : Ref sig .tc := ⟨.hbm, 121, rfl⟩
abbrev main_call3_v0 : Ref sig .tc := ⟨.hbm, 122, rfl⟩
abbrev main_call3_v1 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_cst_17 : Ref sig .tc := ⟨.hbm, 140, rfl⟩
abbrev main_call4_v0 : Ref sig .tc := ⟨.hbm, 141, rfl⟩
abbrev main_call4_v1 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_cst_18 : Ref sig .tc := ⟨.hbm, 152, rfl⟩
abbrev main_v112 : Ref sig .tc := ⟨.hbm, 153, rfl⟩
abbrev main_v113 : Ref sig .tc := ⟨.hbm, 154, rfl⟩
abbrev main_cst_19 : Ref sig .tc := ⟨.hbm, 155, rfl⟩
abbrev main_call5_v0 : Ref sig .tc := ⟨.hbm, 156, rfl⟩
abbrev main_call5_v1 : Ref sig .tc := ⟨.hbm, 157, rfl⟩
abbrev main_v114 : Ref sig .tc := ⟨.hbm, 158, rfl⟩
abbrev main_cst_20 : Ref sig .tc := ⟨.hbm, 159, rfl⟩
abbrev main_v115 : Ref sig .tc := ⟨.hbm, 160, rfl⟩
abbrev main_v116 : Ref sig .tc := ⟨.hbm, 161, rfl⟩

abbrev nD : Nat := 1
abbrev τ : Topo := Topo.v7x

variable {F : FTy → Type} [FloatOps F]
-- ==== Proof.PI.Setup.lean ====
/-
  The launch of the program as the SparseCore launch theorem sees it: its configuration, the resource algebra, the three arrays the SparseCore
  call works on cut into 32 parts (one per vector subcore), and what each task computes as a plain function of the two arrays it reads.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

set_option maxRecDepth 16384

noncomputable section

namespace Cert.Proof.PI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The configuration -/

/-- The program as a launch of a SparseCore kernel and a pipelined TensorCore kernel, and its procedures. -/
abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch semaphores are distinct and unscoped, and no buffer of a SparseCore is shared by its tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the TensorCore pipeline's rounds, the transfers' counters -/

abbrev UH : Type := URounds (GSem nD τ sig) ℕ
abbrev UE : Type := URounds (GSem nD τ sig) Unit
abbrev UU : Type := UH × (UE × Counters)

local notation "𝕄" => MT nD τ sig (HIx 1) (Elt F) ℕ UU ℕ

abbrev EH : Emb UH (MT nD τ sig (HIx 1) (Elt F) ℕ UU ℕ) := embL
abbrev EP : Emb UE (MT nD τ sig (HIx 1) (Elt F) ℕ UU ℕ) := (Emb.inl : Emb UE (UE × Counters)).trans embR

instance EP_landsIn : (EP (F := F)).LandsIn (upEmb : UEmb _ (MT nD τ sig (HIx 1) (Elt F) ℕ UU ℕ)) := by
  unfold EP embR; infer_instance

/-! ## The arrays of the SparseCore call -/

variable (m : (ℓ : Loc nD τ sig) → Buf (Elt F) ℓ) (ρ : Dev nD → PrngReg)

/-- The box columns, the classes and the result, as locations of device `d`. -/
abbrev bLoc (d : Dev nD) : Loc nD τ sig := (SparseCore.T d).loc main_v5
abbrev cLoc (d : Dev nD) : Loc nD τ sig := (SparseCore.T d).loc main_arg3
abbrev oLoc (d : Dev nD) : Loc nD τ sig := (SparseCore.T d).loc main_v8

/-- The kernel's arrays and scratches as a subcore's body is given them. -/
abbrev bV : Memref Cert.KernelIdeal.sig Kind.scVector Space.hbm Cert.KernelIdeal.S8x131072 EltTy.f32 := Memref.whole Cert.KernelIdeal.main_v5_scv
abbrev cV : Memref Cert.KernelIdeal.sig Kind.scVector Space.hbm Cert.KernelIdeal.S131072 EltTy.i32 := Memref.whole Cert.KernelIdeal.main_arg3_scv
abbrev oV : Memref Cert.KernelIdeal.sig Kind.scVector Space.hbm Cert.KernelIdeal.S32x2x16 EltTy.f32 := Memref.whole Cert.KernelIdeal.main_v8_scv
abbrev sB : Memref Cert.KernelIdeal.sig Kind.scVector Space.vmem Cert.KernelIdeal.S8x4096 EltTy.f32 := Memref.whole Cert.KernelIdeal.cc1_scratch0
abbrev sC : Memref Cert.KernelIdeal.sig Kind.scVector Space.vmem Cert.KernelIdeal.S4096 EltTy.i32 := Memref.whole Cert.KernelIdeal.cc1_scratch1
abbrev sA : Memref Cert.KernelIdeal.sig Kind.scVector Space.vmem Cert.KernelIdeal.S2x16 EltTy.f32 := Memref.whole Cert.KernelIdeal.cc1_scratch2

/-- The three arrays divide into 32 parts. -/
theorem hdivB : 32 ∣ S8x131072.size 1 := ⟨4096, rfl⟩
theorem hdivC : 32 ∣ S131072.size 0 := ⟨4096, rfl⟩
theorem hdivO : 32 ∣ S32x2x16.size 0 := ⟨1, rfl⟩
/-- Worker `w`'s 4096 columns of the boxes, 4096 classes, and (2, 16) row of the result. -/
abbrev partB (w : Fin 32) : Rect S8x131072 := Rect.part (s := S8x131072) (a₀ := 1) hdivB w
abbrev partC (w : Fin 32) : Rect S131072 := Rect.part (s := S131072) (a₀ := 0) hdivC w
abbrev partO (w : Fin 32) : Rect S32x2x16 := Rect.part (s := S32x2x16) (a₀ := 0) hdivO w
abbrev setB (w : Fin 32) : Finset S8x131072.Idx := ((bV).view.slice (partB w)).set
abbrev setC (w : Fin 32) : Finset S131072.Idx := ((cV).view.slice (partC w)).set
abbrev setO (w : Fin 32) : Finset S32x2x16.Idx := ((oV).view.slice (partO w)).set

/-- The worker of subcore `s` of SparseCore `c`. -/
def wid (c : Fin 2) (s : Fin 16) : Fin 32 := ⟨2 * s.val + c.val, by omega⟩

/-- Worker `w`'s part of each of the three arrays, at given contents of the whole. -/
abbrev ptB (d : Dev nD) (w : Fin 32) (B : Buf (Elt F) (bLoc d)) : sProp 𝕄 := bLoc d ↦[setB w]{fullShare} B
abbrev ptC (d : Dev nD) (w : Fin 32) (C : Buf (Elt F) (cLoc d)) : sProp 𝕄 := cLoc d ↦[setC w]{fullShare} C
abbrev ptO (d : Dev nD) (w : Fin 32) (o : Buf (Elt F) (oLoc d)) : sProp 𝕄 := oLoc d ↦[setO w]{fullShare} o

/-! ## What a task computes -/

/-- Worker `w`'s columns of the boxes and its classes, as its scratch holds them. -/
def boxTile (B : Vec F S8x131072 .f32) (w : Fin 32) : Vec F S8x4096 .f32 := fun j =>
  B fun | 0 => j 0 | 1 => ⟨4096 * w.val + (j 1).val, by have h : (j 1).val < 4096 := (j 1).isLt; have := w.isLt; show _ < 131072; omega⟩
def clsTile (C : Vec F S131072 .i32) (w : Fin 32) : Vec F S4096 .i32 := fun j =>
  C fun | 0 => ⟨4096 * w.val + (j 0).val, by have h : (j 0).val < 4096 := (j 0).isLt; have := w.isLt; show _ < 131072; omega⟩

/-- Sixteen lanes of row `r` of a task's boxes at trip `k`, and its sixteen classes there. -/
def boxRow (b : Vec F S8x4096 .f32) (r : Fin 8) (k : Fin 256) : Vec F S1x16 .f32 := fun j =>
  b fun | 0 => r | 1 => ⟨16 * k.val + (j 1).val, by have h : (j 1).val < 16 := (j 1).isLt; have := k.isLt; show _ < 4096; omega⟩
def clsRow (c : Vec F S4096 .i32) (k : Fin 256) : Vec F S16 .i32 := fun j =>
  c fun | 0 => ⟨16 * k.val + (j 0).val, by have h : (j 0).val < 16 := (j 0).isLt; have := k.isLt; show _ < 4096; omega⟩

/-- One trip: the two accumulators after trip `k`. -/
def trip (b : Vec F S8x4096 .f32) (c : Vec F S4096 .i32) (k : Fin 256) (acc : FVec F S16 .f32 × FVec F S16 .f32) : FVec F S16 .f32 × FVec F S16 .f32 :=
  (k1_pay18 acc.1 (k1_pay1 (boxRow b 0 k)) (k1_pay2 (boxRow b 1 k)) (k1_pay3 (boxRow b 2 k)) (k1_pay4 (boxRow b 3 k)) (k1_pay5 (boxRow b 4 k))
      (k1_pay6 (boxRow b 5 k)) (k1_pay7 (boxRow b 6 k)) (k1_pay8 (boxRow b 7 k)) (k1_pay9 (k1_pay16) (clsRow c k))
      (k1_pay10 (boxRow b 0 k) (boxRow b 1 k) (boxRow b 2 k) (boxRow b 3 k)) (k1_pay11 (boxRow b 4 k) (boxRow b 5 k) (boxRow b 6 k) (boxRow b 7 k))
      (k1_pay12 (k1_pay14) (boxRow b 0 k) (boxRow b 2 k) (boxRow b 4 k) (boxRow b 6 k)) (k1_pay13 (boxRow b 1 k) (boxRow b 3 k) (boxRow b 5 k) (boxRow b 7 k)),
    k1_pay19 acc.2 (k1_pay9 (k1_pay16) (clsRow c k)))

/-- The accumulators after the first `n` trips. -/
def accs (b : Vec F S8x4096 .f32) (c : Vec F S4096 .i32) : ℕ → FVec F S16 .f32 × FVec F S16 .f32
  | 0 => (k1_pay17, k1_pay17)
  | n + 1 => if h : n < 256 then trip b c ⟨n, h⟩ (accs b c n) else accs b c n

/-- Lane `x` of a sixteen-lane vector. -/
def lane (x : Fin 16) : S16.Idx := fun | 0 => x

/-- The result array as the 32 tasks leave it: row `w`'s first half is worker `w`'s loss accumulator, its second half the count. -/
def outOf (B : Vec F S8x131072 .f32) (C : Vec F S131072 .i32) : Vec F S32x2x16 .f32 := fun i =>
  if (i 1).val = 0 then (accs (boxTile B (i 0)) (clsTile C (i 0)) 256).1 (lane (i 2)) else (accs (boxTile B (i 0)) (clsTile C (i 0)) 256).2 (lane (i 2))

end Cert.Proof.PI

end
-- ==== Proof.PI.Tile.lean ====
/-
  One task of the SparseCore call: on vector subcore `s` of SparseCore `c` it fetches its columns of the boxes and its classes, runs 256 trips over
  sixteen lanes each, and writes the two accumulators out to its row of the result. The triple names the row's contents.
-/
module

public import proofs.«01_k».proof.Proof.PI.Setup
public import Idealize.ShloMosaic.Lib.WritesUnit
public import Idealize.ShloMosaic.Lib.PointwiseCore

@[expose] public section

set_option maxRecDepth 16384

noncomputable section

namespace Cert.Proof.PI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid1.Coords)

/-! ## The parts in the body's spelling -/

/-- A subcore's SparseCore, its number there, and its worker. -/
abbrev ci (L : grid1.Coords) : Fin τ.nSC := (L 0).castLE hcore1
abbrev si (L : grid1.Coords) : Fin τ.nSub := (L 1).castLE hsub1
theorem bound_zero : grid1.bound 0 = 2 := rfl
theorem bound_one : grid1.bound 1 = 16 := rfl
abbrev wL (L : grid1.Coords) : Fin 32 := wid (Fin.cast bound_zero (L 0)) (Fin.cast bound_one (L 1))

theorem wL_val : (wL L).val = 2 * (L 1).val + (L 0).val := rfl

/-- The parts of the three arrays that a task's copies name. -/
abbrev rectB (L : grid1.Coords) : Rect S8x131072 := Rect.unit (s := S8x131072) (k1_off1 L) S8x4096.size (k1_off1_inb L)
abbrev rectC (L : grid1.Coords) : Rect S131072 := Rect.unit (s := S131072) (k1_off2 L) S4096.size (k1_off2_inb L)
abbrev rectO (L : grid1.Coords) : Rect S32x2x16 := Rect.unit (s := S32x2x16) (k1_off12 L) S1x2x16.size (k1_off12_inb L)
abbrev mB (L : grid1.Coords) : Memref sig .scVector .hbm S8x4096 .f32 := (bV).slice (rectB L) (fun _ => rfl)
abbrev mC (L : grid1.Coords) : Memref sig .scVector .hbm S4096 .i32 := (cV).slice (rectC L) (fun _ => rfl)
abbrev mO (L : grid1.Coords) : Memref sig .scVector .hbm S2x16 .f32 := ((oV).slice (rectO L) (fun _ => rfl)).squeeze S2x16 squeezes_S1x2x16_S2x16

/-- The parts that the copies name are the worker's. -/
theorem rectB_eq : rectB L = partB (wL L) := by
  unfold rectB partB Rect.part Rect.block
  congr 1 <;> funext a
  · rw [k1_off1_eq]
    match a with
    | 0 => simp [Shape.partIx, Shape.partSize]
    | 1 => simp [Shape.partIx, Shape.partSize, wL_val]; omega
  · match a with
    | 0 => simp [Shape.partSize]
    | 1 => simp [Shape.partSize]
theorem rectC_eq : rectC L = partC (wL L) := by
  unfold rectC partC Rect.part Rect.block
  congr 1 <;> funext a
  · rw [k1_off2_eq]
    match a with
    | 0 => simp [Shape.partIx, Shape.partSize, wL_val]; omega
  · match a with
    | 0 => simp [Shape.partSize]
theorem rectO_eq : rectO L = partO (wL L) := by
  unfold rectO partO Rect.part Rect.block
  congr 1 <;> funext a
  · rw [k1_off12_eq]
    match a with
    | 0 => simp [Shape.partIx, Shape.partSize, wL_val]
    | 1 => simp [Shape.partIx, Shape.partSize]
    | 2 => simp [Shape.partIx, Shape.partSize]
  · match a with
    | 0 => simp [Shape.partSize]
    | 1 => simp [Shape.partSize]
    | 2 => simp [Shape.partSize]

/-- So are their entries. -/
theorem set_mB : (mB L).view.set = setB (wL L) := by
  show ((bV).view.slice (rectB L)).set = ((bV).view.slice (partB (wL L))).set
  exact rectB_eq L ▸ rfl
theorem set_mC : (mC L).view.set = setC (wL L) := by
  show ((cV).view.slice (rectC L)).set = ((cV).view.slice (partC (wL L))).set
  exact rectC_eq L ▸ rfl
theorem set_mO : (mO L).view.set = setO (wL L) := by
  show (((oV).view.slice (rectO L)).reshape S2x16 squeezes_S1x2x16_S2x16.numel_eq).set = ((oV).view.slice (partO (wL L))).set
  rw [View.set_reshape]
  exact rectO_eq L ▸ rfl

/-- Holding what a copy names is holding the worker's part. -/
theorem pts_mB (f : Buf (Elt F) (bLoc d)) :
    ((mB L).view.loc (V d (ci L) (si L)) ↦[(mB L).view.set]{fullShare} f : sProp 𝕄) = ptB d (wL L) f := by
  rw [set_mB]
theorem pts_mC (f : Buf (Elt F) (cLoc d)) :
    ((mC L).view.loc (V d (ci L) (si L)) ↦[(mC L).view.set]{fullShare} f : sProp 𝕄) = ptC d (wL L) f := by
  rw [set_mC]
theorem pts_mO (f : Buf (Elt F) (oLoc d)) :
    ((mO L).view.loc (V d (ci L) (si L)) ↦[(mO L).view.set]{fullShare} f : sProp 𝕄) = ptO d (wL L) f := by
  rw [set_mO]

/-! ## The subcore's own buffers and semaphores -/

/-- The three copies' semaphores. -/
abbrev sem0 (d : Dev nD) (c : Fin τ.nSC) (i : Fin τ.nSub) : GSem nD τ sig := (V d c i, .dma cc1_scoped0.sem)
abbrev sem1 (d : Dev nD) (c : Fin τ.nSC) (i : Fin τ.nSub) : GSem nD τ sig := (V d c i, .dma cc1_scoped1.sem)
abbrev sem2 (d : Dev nD) (c : Fin τ.nSC) (i : Fin τ.nSub) : GSem nD τ sig := (V d c i, .dma cc1_scoped2.sem)

/-- The subcore's scoped cells are the three the body names and the rest. -/
theorem ownSems0_V :
    (ownSems0 (V d (ci L) (si L)) : sProp 𝕄)
      = iprop(semVal (sem0 d (ci L) (si L)) 0 ∗ semVal (sem1 d (ci L) (si L)) 0 ∗ semVal (sem2 d (ci L) (si L)) 0
          ∗ bigSep ((((ownCells (V d (ci L) (si L))).erase (sem0 d (ci L) (si L))).erase (sem1 d (ci L) (si L))).erase (sem2 d (ci L) (si L)))
              fun g => semVal g 0) := by
  unfold SparseCore.Cfg.ownSems0
  rw [SparseCore.bigSep_erase' ((mem_ownCells (g := sem0 d (ci L) (si L))).mpr ⟨rfl, by
      show (SemLoc.dma cc1_scoped0.sem : SemLoc sig).isScoped .scVector = true; decide⟩),
    SparseCore.bigSep_erase' (Finset.mem_erase.mpr ⟨by simp [sem0, sem1]; decide, (mem_ownCells (g := sem1 d (ci L) (si L))).mpr ⟨rfl, by
      show (SemLoc.dma cc1_scoped1.sem : SemLoc sig).isScoped .scVector = true; decide⟩⟩),
    SparseCore.bigSep_erase' (Finset.mem_erase.mpr ⟨by simp [sem1, sem2]; decide, Finset.mem_erase.mpr ⟨by simp [sem0, sem2]; decide,
      (mem_ownCells (g := sem2 d (ci L) (si L))).mpr ⟨rfl, by show (SemLoc.dma cc1_scoped2.sem : SemLoc sig).isScoped .scVector = true; decide⟩⟩⟩)]

/-- The subcore's own buffers are the three scratches, each at some contents, and the rest. -/
theorem ownBufs_V :
    (ownBufs (V d (ci L) (si L)) : sProp 𝕄)
      = iprop((∃ f, (V d (ci L) (si L)).loc cc1_scratch0 ↦{fullShare} f) ∗ (∃ f, (V d (ci L) (si L)).loc cc1_scratch1 ↦{fullShare} f)
          ∗ (∃ f, (V d (ci L) (si L)).loc cc1_scratch2 ↦{fullShare} f)
          ∗ bigSep ((((ownRefs (τ := τ) (.scVector (ci L) (si L))).erase ((Proc.scVector (ci L) (si L)).devRef cc1_scratch0)).erase
              ((Proc.scVector (ci L) (si L)).devRef cc1_scratch1)).erase ((Proc.scVector (ci L) (si L)).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (ci L) (si L))
    (b := (Proc.scVector (ci L) (si L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (ci L) (si L)) (b := (Proc.scVector (ci L) (si L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
      SparseCore.Cfg.mem_ownRefs_of_owner (p := Proc.scVector (ci L) (si L)) (b := (Proc.scVector (ci L) (si L)).devRef cc1_scratch2) rfl⟩⟩)]

/-! ## The task -/

/-- The scratches WHOLE, in the body's spelling. -/
theorem pts_sB (f : Buf (Elt F) ((V d (ci L) (si L)).loc cc1_scratch0)) :
    ((sB).view.loc (V d (ci L) (si L)) ↦{fullShare} f : sProp 𝕄) = (V d (ci L) (si L)).loc cc1_scratch0 ↦{fullShare} f := rfl
theorem pts_sC (f : Buf (Elt F) ((V d (ci L) (si L)).loc cc1_scratch1)) :
    ((sC).view.loc (V d (ci L) (si L)) ↦{fullShare} f : sProp 𝕄) = (V d (ci L) (si L)).loc cc1_scratch1 ↦{fullShare} f := rfl
theorem pts_sA (f : Buf (Elt F) ((V d (ci L) (si L)).loc cc1_scratch2)) :
    ((sA).view.loc (V d (ci L) (si L)) ↦{fullShare} f : sProp 𝕄) = (V d (ci L) (si L)).loc cc1_scratch2 ↦{fullShare} f := rfl

/-- A copy of the task's part into a scratch leaves the scratch at the task's boxes, or its classes. -/
theorem read_mB (B : Buf (Elt F) (bLoc d)) : (mB L).view.read (Elt F) B = boxTile B (wL L) := by
  funext j
  rw [View.read_apply]
  show B ((mB L).view.emb j) = B _
  congr 1
  funext a
  apply Fin.ext
  show k1_off1 L a + 1 * (j a).val = _
  rw [k1_off1_eq]
  match a with
  | 0 => show 0 + 1 * (j 0).val = (j 0).val; omega
  | 1 =>
    show (8192 * (L 1).val + 4096 * (L 0).val) + 1 * (j 1).val = 4096 * (2 * (L 1).val + (L 0).val) + (j 1).val
    omega
/-- The classes that a task fetches. -/
theorem read_mC (C : Buf (Elt F) (cLoc d)) : (mC L).view.read (Elt F) C = clsTile C (wL L) := by
  funext j
  rw [View.read_apply]
  show C ((mC L).view.emb j) = C _
  congr 1
  funext a
  apply Fin.ext
  show k1_off2 L a + 1 * (j a).val = _
  rw [k1_off2_eq]
  match a with
  | 0 =>
    show (8192 * (L 1).val + 4096 * (L 0).val) + 1 * (j 0).val = 4096 * (2 * (L 1).val + (L 0).val) + (j 0).val
    omega

/-- A load of sixteen lanes of a row of the boxes, and of sixteen classes. -/
theorem load_box (b : Vec F S8x4096 .f32) (off : Fin 2 → ℕ) (r : Fin 8) (k : Fin 256) (h : off = ![r.val, 16 * k.val])
    (inb : ∀ a, off a + S1x16.size a ≤ S8x4096.size a) :
    View.readAt (Elt F) (sB).view (Rect.unit (s := S8x4096) off S1x16.size inb).toLoadRect b = boxRow b r k := by
  subst h
  funext j
  rw [View.readAt_apply]
  show b _ = b _
  congr 1
  funext a
  apply Fin.ext
  match a with
  | 0 => show r.val + 1 * (j 0).val = r.val; have : (j 0).val < 1 := (j 0).isLt; omega
  | 1 => show 16 * k.val + 1 * (j 1).val = 16 * k.val + (j 1).val; omega
/-- The classes that a trip loads. -/
theorem load_cls (c : Vec F S4096 .i32) (off : Fin 1 → ℕ) (k : Fin 256) (h : off = ![16 * k.val])
    (inb : ∀ a, off a + S16.size a ≤ S4096.size a) :
    View.readAt (Elt F) (sC).view (Rect.unit (s := S4096) off S16.size inb).toLoadRect c = clsRow c k := by
  subst h
  funext j
  rw [View.readAt_apply]
  show c _ = c _
  congr 1
  funext a
  apply Fin.ext
  match a with
  | 0 => show 16 * k.val + 1 * (j 0).val = 16 * k.val + (j 0).val; omega

/-- The loop makes 256 trips. -/
theorem trips_eq : k1_t1_loop.trips = 256 := by decide

/-- A trip's loads and arithmetic are `trip`. -/
theorem trip_of_loads (b : Vec F S8x4096 .f32) (c : Vec F S4096 .i32) (k : Fin k1_t1_loop.trips) (a1 a2 : FVec F S16 .f32)
    (ha : (a1, a2) = accs b c k.val) :
    (k1_pay18 a1 (k1_pay1 (View.readAt (Elt F) (sB).view (Rect.unit (s := S8x4096) (k1_off3 k) S1x16.size (k1_off3_inb k)).toLoadRect b))
      (k1_pay2 (View.readAt (Elt F) (sB).view (Rect.unit (s := S8x4096) (k1_off4 k) S1x16.size (k1_off4_inb k)).toLoadRect b))
      (k1_pay3 (View.readAt (Elt F) (sB).view (Rect.unit (s := S8x4096) (k1_off5 k) S1x16.size (k1_off5_inb k)).toLoadRect b))
      (k1_pay4 (View.readAt (Elt F) (sB).view (Rect.unit (s := S8x4096) (k1_off6 k) S1x16.size (k1_off6_inb k)).toLoadRect b))
      (k1_pay5 (View.readAt (Elt F) (sB).view (Rect.unit (s := S8x4096) (k1_off7 k) S1x16.size (k1_off7_inb k)).toLoadRect b))
      (k1_pay6 (View.readAt (Elt F) (sB).view (Rect.unit (s := S8x4096) (k1_off8 k) S1x16.size (k1_off8_inb k)).toLoadRect b))
      (k1_pay7 (View.readAt (Elt F) (sB).view (Rect.unit (s := S8x4096) (k1_off9 k) S1x16.size (k1_off9_inb k)).toLoadRect b))
      (k1_pay8 (View.readAt (Elt F) (sB).view (Rect.unit (s := S8x4096) (k1_off10 k) S1x16.size (k1_off10_inb k)).toLoadRect b))
      (k1_pay9 k1_pay16 (View.readAt (Elt F) (sC).view (Rect.unit (s := S4096) (k1_off11 k) S16.size (k1_off11_inb k)).toLoadRect c))
      (k1_pay10 (View.readAt (Elt F) (sB).view (Rect.unit (s := S8x4096) (k1_off3 k) S1x16.size (k1_off3_inb k)).toLoadRect b)
        (View.readAt (Elt F) (sB).view (Rect.unit (s := S8x4096) (k1_off4 k) S1x16.size (k1_off4_inb k)).toLoadRect b)
        (View.readAt (Elt F) (sB).view (Rect.unit (s := S8x4096) (k1_off5 k) S1x16.size (k1_off5_inb k)).toLoadRect b)
        (View.readAt (Elt F) (sB).view (Rect.unit (s := S8x4096) (k1_off6 k) S1x16.size (k1_off6_inb k)).toLoadRect b))
      (k1_pay11 (View.readAt (Elt F) (sB).view (Rect.unit (s := S8x4096) (k1_off7 k) S1x16.size (k1_off7_inb k)).toLoadRect b)
        (View.readAt (Elt F) (sB).view (Rect.unit (s := S8x4096) (k1_off8 k) S1x16.size (k1_off8_inb k)).toLoadRect b)
        (View.readAt (Elt F) (sB).view (Rect.unit (s := S8x4096) (k1_off9 k) S1x16.size (k1_off9_inb k)).toLoadRect b)
        (View.readAt (Elt F) (sB).view (Rect.unit (s := S8x4096) (k1_off10 k) S1x16.size (k1_off10_inb k)).toLoadRect b))
      (k1_pay12 k1_pay14 (View.readAt (Elt F) (sB).view (Rect.unit (s := S8x4096) (k1_off3 k) S1x16.size (k1_off3_inb k)).toLoadRect b)
        (View.readAt (Elt F) (sB).view (Rect.unit (s := S8x4096) (k1_off5 k) S1x16.size (k1_off5_inb k)).toLoadRect b)
        (View.readAt (Elt F) (sB).view (Rect.unit (s := S8x4096) (k1_off7 k) S1x16.size (k1_off7_inb k)).toLoadRect b)
        (View.readAt (Elt F) (sB).view (Rect.unit (s := S8x4096) (k1_off9 k) S1x16.size (k1_off9_inb k)).toLoadRect b))
      (k1_pay13 (View.readAt (Elt F) (sB).view (Rect.unit (s := S8x4096) (k1_off4 k) S1x16.size (k1_off4_inb k)).toLoadRect b)
        (View.readAt (Elt F) (sB).view (Rect.unit (s := S8x4096) (k1_off6 k) S1x16.size (k1_off6_inb k)).toLoadRect b)
        (View.readAt (Elt F) (sB).view (Rect.unit (s := S8x4096) (k1_off8 k) S1x16.size (k1_off8_inb k)).toLoadRect b)
        (View.readAt (Elt F) (sB).view (Rect.unit (s := S8x4096) (k1_off10 k) S1x16.size (k1_off10_inb k)).toLoadRect b)),
      k1_pay19 a2 (k1_pay9 k1_pay16 (View.readAt (Elt F) (sC).view (Rect.unit (s := S4096) (k1_off11 k) S16.size (k1_off11_inb k)).toLoadRect c)))
      = accs b c (k.val + 1) := by
  have hk : k.val < 256 := trips_eq ▸ k.isLt
  rw [accs, dif_pos hk, ← ha]
  unfold trip
  rw [load_box b _ 0 ⟨k.val, hk⟩ (k1_off3_eq k), load_box b _ 1 ⟨k.val, hk⟩ (k1_off4_eq k), load_box b _ 2 ⟨k.val, hk⟩ (k1_off5_eq k),
    load_box b _ 3 ⟨k.val, hk⟩ (k1_off6_eq k), load_box b _ 4 ⟨k.val, hk⟩ (k1_off7_eq k), load_box b _ 5 ⟨k.val, hk⟩ (k1_off8_eq k),
    load_box b _ 6 ⟨k.val, hk⟩ (k1_off9_eq k), load_box b _ 7 ⟨k.val, hk⟩ (k1_off10_eq k), load_cls c _ ⟨k.val, hk⟩ (k1_off11_eq k)]

/-- The two accumulators as the (2, 16) block a task writes out. -/
def rows (acc : FVec F S16 .f32 × FVec F S16 .f32) : Vec F S2x16 .f32 := fun x => if (x 0).val = 0 then acc.1 (lane (x 1)) else acc.2 (lane (x 1))

/-- A sixteen-lane vector as a row. -/
theorem flat_row (v : FVec F S16 .f32) (x : Fin 16) (h : S16.ShapeCasts S1x16) :
    shapeCast S1x16 v h (fun | 0 => ⟨0, by decide⟩ | 1 => x : S1x16.Idx) = v (lane x) := by
  pointwise
  congr 1
  funext a
  match a with
  | 0 => rfl

/-- The two stores into the accumulator scratch leave the block of the two accumulators. -/
theorem out_rows (fa : Vec F S2x16 .f32) (acc : FVec F S16 .f32 × FVec F S16 .f32) :
    (sA).view.read (Elt F) ((sA).view.writes (Elt F) fa
      [⟨Rect.unit (s := S2x16) ![1, 0] S1x16.size inb_S2x16_S1x16_1_0, k1_pay21 acc.2⟩,
        ⟨Rect.unit (s := S2x16) ![0, 0] S1x16.size inb_S2x16_S1x16_0_0, k1_pay20 acc.1⟩]) = rows acc := by
  funext x
  have hx : (x 0).val < 2 := (x 0).isLt
  unfold rows
  by_cases h : (x 0).val = 0
  · rw [if_pos h, View.read_writes_cons_unit_of_not_mem (sA).view fa inb_S2x16_S1x16_1_0 (k1_pay21 (F := F) acc.2) _ x rfl (0 : Fin 2) (by left; show (x 0).val < 1; omega),
      View.read_writes_cons_unit_of_mem (sA).view fa inb_S2x16_S1x16_0_0 (k1_pay20 (F := F) acc.1) _ x (fun | 0 => ⟨0, by decide⟩ | 1 => x 1 : S1x16.Idx) rfl
        (fun | 0 => by show (x 0).val = 0 + 0; omega | 1 => by show (x 1).val = 0 + (x 1).val; omega)]
    exact flat_row acc.1 (x 1) _
  · rw [if_neg h, View.read_writes_cons_unit_of_mem (sA).view fa inb_S2x16_S1x16_1_0 (k1_pay21 (F := F) acc.2) _ x (fun | 0 => ⟨0, by decide⟩ | 1 => x 1 : S1x16.Idx) rfl
        (fun | 0 => by show (x 0).val = 1 + 0; omega | 1 => by show (x 1).val = 0 + (x 1).val; omega)]
    exact flat_row acc.2 (x 1) _

/-- A (2, 16) index in the (1, 2, 16) block it is a squeeze of. -/
theorem unsqueeze (x : S2x16.Idx) (h : S2x16.numel = S1x2x16.numel) :
    Shape.reshapeEquiv h x = (fun | 0 => ⟨0, by decide⟩ | 1 => x 0 | 2 => x 1 : S1x2x16.Idx) := by
  idx_vars x
  pointwise
  funext a
  match a with
  | 0 => rfl
  | 1 => rfl
  | 2 => rfl

/-- Where element `x` of a task's block lies in the result array. -/
theorem emb_mO (x : S2x16.Idx) : (mO L).view.emb x = (fun | 0 => wL L | 1 => x 0 | 2 => x 1 : S32x2x16.Idx) := by
  show (rectO L).emb (Shape.reshapeEquiv _ x) = _
  rw [unsqueeze]
  funext a
  apply Fin.ext
  show k1_off12 L a + 1 * _ = _
  rw [k1_off12_eq]
  match a with
  | 0 => show (2 * (L 1).val + (L 0).val) + 1 * 0 = 2 * (L 1).val + (L 0).val; omega
  | 1 => show 0 + 1 * (x 0).val = (x 0).val; omega
  | 2 => show 0 + 1 * (x 1).val = (x 1).val; omega

/-- The block written out to the task's row leaves there what the result is to hold. -/
theorem out_pts (B : Buf (Elt F) (bLoc d)) (C : Buf (Elt F) (cLoc d)) (o : Buf (Elt F) (oLoc d)) (x : Vec F S2x16 .f32)
    (hx : x = rows (accs (boxTile B (wL L)) (clsTile C (wL L)) 256)) :
    ((mO L).view.loc (V d (ci L) (si L)) ↦[(mO L).view.set]{fullShare} (mO L).view.writes (Elt F) o [⟨Rect.whole S2x16, x⟩] : sProp 𝕄)
      = ptO d (wL L) (outOf B C) := by
  subst hx
  rw [← pts_mO]
  refine pointsTo_congr fun i hi => ?_
  obtain ⟨x, -, rfl⟩ := Finset.mem_map.mp hi
  have h := congrFun (View.read_writes_whole (mO L).view o (rows (accs (boxTile B (wL L)) (clsTile C (wL L)) 256))) x
  rw [View.read_apply] at h
  refine Eq.trans ?_ (h.trans ?_)
  · rfl
  rw [emb_mO]
  rfl

/-- The loop's invariant: the scratches at the task's boxes and classes, the accumulators those of the trips made so far. -/
def inv (B : Vec F S8x131072 .f32) (C : Vec F S131072 .i32) (k : ℕ) (acc : FVec F S16 .f32 × FVec F S16 .f32) :
    sProp (MT nD τ sig (HIx 1) (Elt F) ℕ UU ℕ) :=
  iprop(⌜acc = accs (boxTile B (wL L)) (clsTile C (wL L)) k⌝ ∗ ((sB).view.loc (V d (ci L) (si L)) ↦{fullShare} (boxTile B (wL L) : Buf (Elt F) ((V d (ci L) (si L)).loc cc1_scratch0)))
    ∗ ((sC).view.loc (V d (ci L) (si L)) ↦{fullShare} (clsTile C (wL L) : Buf (Elt F) ((V d (ci L) (si L)).loc cc1_scratch1))))

/-- A task runs from its parts of the three arrays to the same parts, its row of the result computed. -/
theorem tile_body (B : Buf (Elt F) (bLoc d)) (C : Buf (Elt F) (cLoc d)) (o : Buf (Elt F) (oLoc d))
    (hF : (K (F := F)).Facts) (O : CellTallies nD τ sig (HIx 1)) (W : Waits sig (HIx 1)) (hO : ∀ g, O g none = 0) :
    iprop(levAts (K (F := F)).L (K (F := F)).lev ∗ emp
        ∗ (ptB d (wL L) B ∗ ptC d (wL L) C ∗ ptO d (wL L) o)
        ∗ scopedBufs (V d (ci L) (si L)) ∗ scopedSems0 (V d (ci L) (si L)) ∗ owes (V d (ci L) (si L)) O W)
      ⊢ wp frame (wpE (defs₀ (F := F)) 𝒱₀ (V d (ci L) (si L)) none) Set.univ
          (cc1__sc_giou_body L bV (Memref.isWhole_whole _) cV (Memref.isWhole_whole _) oV (Memref.isWhole_whole _)
            sB (Memref.isWhole_whole _) sC (Memref.isWhole_whole _) sA (Memref.isWhole_whole _) cc1_scoped0 cc1_scoped1 cc1_scoped2)
          fun _ => iprop((ptB d (wL L) B ∗ ptC d (wL L) C ∗ ptO d (wL L) (outOf B C))
            ∗ scopedBufs (V d (ci L) (si L)) ∗ scopedSems0 (V d (ci L) (si L))
            ∗ ∃ W', ⌜∀ p ∈ W', p ∈ W ∨ p.2 = none ∨ p.2 = some (0 : Fin 1)⌝ ∗ owes (V d (ci L) (si L)) O W') := by
  rw [(K (F := F)).scopedBufs_V hF d (ci L) (si L), SparseCore.Cfg.scopedSems0_V (Val := Elt F) d (ci L) (si L), ownSems0_V, ownBufs_V]
  simp only [cc1__sc_giou_body_eq_skeleton]; unfold cc1__sc_giou_body_skel; simp only [k1_part2_eq_skeleton]; unfold k1_part2_skel
  simp only [Prog.lift, Prog.bind_op, Prog.bind_ret, Prog.pure_eq_ret, Prog.bind_assoc]
  iintro ⟨#Hlv, -, ⟨HB, HC, Ho⟩, ⟨⟨%fb, Hb⟩, ⟨%fc, Hc⟩, ⟨%fa, Ha⟩, Hbufs⟩, ⟨Hs0, Hs1, Hs2, Hsems⟩, HO⟩
  ihave Hmw := (show levAts (K (F := F)).L (K (F := F)).lev ⊢ Transfers.MayWaits (V d (ci L) (si L)) (default : HIx 1) O from
    (K (F := F)).mayWaits_none (thr := V d (ci L) (si L)) hO) $$ Hlv
  ihave HB' := (Entails.of_eq (pts_mB (F := F) d L _).symm) $$ HB
  ihave HC' := (Entails.of_eq (pts_mC (F := F) d L _).symm) $$ HC
  ihave Ho' := (Entails.of_eq (pts_mO (F := F) d L _).symm) $$ Ho
  ihave Hb' := (Entails.of_eq (pts_sB (F := F) d L _).symm) $$ Hb
  ihave Hc' := (Entails.of_eq (pts_sC (F := F) d L _).symm) $$ Hc
  ihave Ha' := (Entails.of_eq (pts_sA (F := F) d L _).symm) $$ Ha
  sl_exec (disch := exact View.amount_pos _ _ (show 0 < S8x4096.numel by decide))
  have hb : View.write (Elt F) (sB).view fb (tile_body.sl.dma0 d L B) Finset.univ = (boxTile B (wL L) : Buf (Elt F) ((V d (ci L) (si L)).loc cc1_scratch0)) := by
    rw [View.write_whole_univ]; exact read_mB d L B
  have hc : View.write (Elt F) (sC).view fc (tile_body.sl.dma0_1 d L C) Finset.univ = (clsTile C (wL L) : Buf (Elt F) ((V d (ci L) (si L)).loc cc1_scratch1)) := by
    rw [View.write_whole_univ]; exact read_mC d L C
  rw [hb, hc]
  sl_for (inv d L B C) $$ [Hb' Hc']
  · intro k acc
    obtain ⟨a1, a2⟩ := acc
    sl_respell [k1_t1_body]
    simp only [k1_part1_eq_skeleton]; unfold k1_part1_skel
    simp only [Prog.lift, Prog.bind_op, Prog.bind_ret, Prog.pure_eq_ret, Prog.bind_assoc]
    unfold inv
    iintro ⟨%ha, Hb, Hc⟩
    sl_exec
    sl_step
    isplitr
    · ipureintro; exact trip_of_loads _ _ k _ _ ha
    isplitl [Hb]; · iexact Hb
    iexact Hc
  · unfold inv
    isplitr; · ipureintro; rfl
    isplitl [Hb']; · iexact Hb'
    iexact Hc'
  iintro %acc HI
  unfold inv
  icases HI with ⟨%ha, Hb', Hc'⟩
  have ha' : acc = accs (boxTile B (wL L)) (clsTile C (wL L)) 256 := ha
  subst ha'
  sl_exec
  sl_step
  isplitl [HB' HC' Ho']
  · isplitl [HB']; · iapply (Entails.of_eq (pts_mB (F := F) d L _)); iexact HB'
    isplitl [HC']; · iapply (Entails.of_eq (pts_mC (F := F) d L _)); iexact HC'
    iapply (Entails.of_eq (out_pts d L B C o _ (out_rows fa _)))
    iexact Ho'
  isplitl [Hb' Hc' Ha' Hbufs]
  · isplitl [Hb']; · iexists _; iexact Hb'
    isplitl [Hc']; · iexists _; iexact Hc'
    isplitl [Ha']; · iexists _; iexact Ha'
    iexact Hbufs
  isplitl [Hs0 Hs1 Hs2 Hsems]
  · isplitl [Hs0]; · iexact Hs0
    isplitl [Hs1]; · iexact Hs1
    isplitl [Hs2]; · iexact Hs2
    iexact Hsems
  iexists _; isplitr
  swap; · iexact HO
  ipureintro; intro p _
  rcases p.2 with _ | q
  · exact .inr (.inl rfl)
  · exact .inr (.inr (congrArg some (Subsingleton.elim q 0)))

end Cert.Proof.PI

end
-- ==== Proof.PI.Launch.lean ====
/-
  The SparseCore call as a whole: the call hands its three arrays to the 32 tasks part by part and receives them back, the result array at
  what the tasks compute (`outOf`).
-/
module

public import proofs.«01_k».proof.Proof.PI.Tile

@[expose] public section

set_option maxRecDepth 16384

noncomputable section

namespace Cert.Proof.PI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (B : (d : Dev nD) → Buf (Elt F) (bLoc d)) (C : (d : Dev nD) → Buf (Elt F) (cLoc d)) (o : (d : Dev nD) → Buf (Elt F) (oLoc d))

/-! ## What the handshakes carry -/

/-- Worker `w`'s parts of the three arrays, the result's at `r`. -/
abbrev share (d : Dev nD) (w : Fin 32) (r : Buf (Elt F) (oLoc d)) : sProp 𝕄 := iprop(ptB d w (B d) ∗ ptC d w (C d) ∗ ptO d w r)
/-- The parts of the workers of SparseCore `c`. -/
abbrev coreShare (d : Dev nD) (c : Fin 2) (r : Buf (Elt F) (oLoc d)) : sProp 𝕄 := bigSep Finset.univ fun s : Fin 16 => share B C d (wid c s) r

/-- The call takes to each SparseCore its workers' parts, to each worker its own, and brings them back at what the workers compute. -/
def P : (K (F := F)).Pay (nD := nD) (Val := Elt F) (Name := ℕ) (U := UU) where
  st := fun q d c => match q with | 0 => coreShare B C d (Fin.cast nCore_zero c) (o d)
  dn := fun q d c => match q with | 0 => coreShare B C d (Fin.cast nCore_zero c) (outOf (B d) (C d))
  go := fun q d c i => match q with | 0 => share B C d (wid (Fin.cast nCore_zero c) (Fin.cast nSub_zero i)) (o d)
  td := fun q d c i => match q with | 0 => share B C d (wid (Fin.cast nCore_zero c) (Fin.cast nSub_zero i)) (outOf (B d) (C d))
  x := fun _ _ => iprop(emp)

/-- What the handshakes carry can be stored. -/
instance P_storable : (P B C o).IsStorable where
  st q d c := match q with
    | 0 => (inferInstance : BI.Storable (upEmb : UEmb _ 𝕄) (coreShare B C d (Fin.cast nCore_zero c) (o d)))
  dn q d c := match q with
    | 0 => (inferInstance : BI.Storable (upEmb : UEmb _ 𝕄) (coreShare B C d (Fin.cast nCore_zero c) (outOf (B d) (C d))))
  go q d c i := match q with
    | 0 => (inferInstance : BI.Storable (upEmb : UEmb _ 𝕄) (share B C d (wid (Fin.cast nCore_zero c) (Fin.cast nSub_zero i)) (o d)))
  td q d c i := match q with
    | 0 => (inferInstance : BI.Storable (upEmb : UEmb _ 𝕄) (share B C d (wid (Fin.cast nCore_zero c) (Fin.cast nSub_zero i)) (outOf (B d) (C d))))

/-! ## The tasks -/

/-- The grid point of subcore `s` of SparseCore `c`. -/
def coordsV (c : Fin (grid1.bound 0)) (s : Fin (grid1.bound 1)) : grid1.Coords :=
  fun | 0 => c | 1 => s | ⟨_ + 2, h⟩ => absurd h (Nat.not_lt.2 (Nat.le_add_left _ _))

/-- The body that a subcore runs. -/
theorem defs₀_vector (c : Fin τ.nSC) (s : Fin τ.nSub) :
    defs₀ (F := F) (.scVector c s) 1 ()
      = SparseCore.onTile hcore1 hsub1 (fun c s => cc1__sc_giou_body (coordsV c s) bV (Memref.isWhole_whole _) cV (Memref.isWhole_whole _) oV (Memref.isWhole_whole _)
          sB (Memref.isWhole_whole _) sC (Memref.isWhole_whole _) sA (Memref.isWhole_whole _) cc1_scoped0 cc1_scoped1 cc1_scoped2) ⟨⟩ c s := rfl

/-- Each task runs from its share to its share with its row of the result computed. -/
theorem tileObl (hF : (K (F := F)).Facts) : (K (F := F)).TileObl (D (F := F)) 𝒱 (P B C o) v₀ 0 := by
  intro d c i O W hO _ _
  simp only [show (P B C o).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) (B d) (C d) (o d) hF O W hO

/-- A conjunction over a SparseCore's subcores, and over the SparseCores, by their numbers. -/
theorem bigSep_subs (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A SparseCore's parts are its tasks' parts, going and returning. -/
theorem vecSplit : (K (F := F)).VecSplit' (P B C o) 0 := by
  intro d c
  show coreShare B C d (Fin.cast nCore_zero c) (o d) ⊢ |={Set.univ}=> iprop(
      (bigSep Finset.univ fun i : Fin ((K (F := F)).nSub 0) => share B C d (wid (Fin.cast nCore_zero c) (Fin.cast nSub_zero i)) (o d))
      ∗ ((bigSep Finset.univ fun i : Fin ((K (F := F)).nSub 0) => share B C d (wid (Fin.cast nCore_zero c) (Fin.cast nSub_zero i)) (outOf (B d) (C d)))
          -∗ coreShare B C d (Fin.cast nCore_zero c) (outOf (B d) (C d))))
  rw [bigSep_subs (fun i => share B C d (wid (Fin.cast nCore_zero c) i) (o d)),
    bigSep_subs (fun i => share B C d (wid (Fin.cast nCore_zero c) i) (outOf (B d) (C d)))]
  iintro H; imodintro
  isplitl [H]; · iexact H
  iintro H; iexact H

/-! ## The arrays split and join -/

/-- A worker's entries of the three arrays are its parts'. -/
theorem setB_eq (w : Fin 32) : setB w = (partB w).set := by
  show ((View.whole (main_v5_scv : Ref sig .scVector)).slice (partB w)).set = _
  rw [View.set_slice]; exact Finset.map_refl
theorem setC_eq (w : Fin 32) : setC w = (partC w).set := by
  show ((View.whole (main_arg3_scv : Ref sig .scVector)).slice (partC w)).set = _
  rw [View.set_slice]; exact Finset.map_refl
theorem setO_eq (w : Fin 32) : setO w = (partO w).set := by
  show ((View.whole (main_v8_scv : Ref sig .scVector)).slice (partO w)).set = _
  rw [View.set_slice]; exact Finset.map_refl

/-- Each array whole is its 32 parts. -/
theorem whole_B (d : Dev nD) (f : Buf (Elt F) (bLoc d)) : (bLoc d ↦{fullShare} f : sProp 𝕄) = bigSep Finset.univ fun w : Fin 32 => ptB d w f := by
  rw [← pointsTo_biUnion Finset.univ (ℓ := bLoc d) setB (fun i _ j _ h => by rw [setB_eq, setB_eq]; exact Rect.part_disjoint hdivB h),
    (Finset.biUnion_congr rfl fun i _ => setB_eq i).trans (Rect.biUnion_part hdivB)]; try rfl
theorem whole_C (d : Dev nD) (f : Buf (Elt F) (cLoc d)) : (cLoc d ↦{fullShare} f : sProp 𝕄) = bigSep Finset.univ fun w : Fin 32 => ptC d w f := by
  rw [← pointsTo_biUnion Finset.univ (ℓ := cLoc d) setC (fun i _ j _ h => by rw [setC_eq, setC_eq]; exact Rect.part_disjoint hdivC h),
    (Finset.biUnion_congr rfl fun i _ => setC_eq i).trans (Rect.biUnion_part hdivC)]; try rfl
theorem whole_O (d : Dev nD) (f : Buf (Elt F) (oLoc d)) : (oLoc d ↦{fullShare} f : sProp 𝕄) = bigSep Finset.univ fun w : Fin 32 => ptO d w f := by
  rw [← pointsTo_biUnion Finset.univ (ℓ := oLoc d) setO (fun i _ j _ h => by rw [setO_eq, setO_eq]; exact Rect.part_disjoint hdivO h),
    (Finset.biUnion_congr rfl fun i _ => setO_eq i).trans (Rect.biUnion_part hdivO)]; try rfl

/-- The workers numbered by SparseCore and subcore. -/
def widEquiv : Fin 2 × Fin 16 ≃ Fin 32 where
  toFun p := wid p.1 p.2
  invFun w := (⟨w.val % 2, Nat.mod_lt _ (by decide)⟩, ⟨w.val / 2, by omega⟩)
  left_inv := fun ⟨c, s⟩ => by
    refine Prod.ext (Fin.ext ?_) (Fin.ext ?_)
    · show (2 * s.val + c.val) % 2 = c.val; omega
    · show (2 * s.val + c.val) / 2 = s.val; omega
  right_inv w := Fin.ext (by show 2 * (w.val / 2) + w.val % 2 = w.val; omega)

/-- The SparseCores' parts are the three arrays whole. -/
theorem shares_eq (d : Dev nD) (r : Buf (Elt F) (oLoc d)) :
    (bigSep Finset.univ fun c : Fin ((K (F := F)).nCore 0) => coreShare B C d (Fin.cast nCore_zero c) r)
      = iprop((bLoc d ↦{fullShare} B d) ∗ (cLoc d ↦{fullShare} C d) ∗ oLoc d ↦{fullShare} r) := by
  rw [bigSep_cores (fun c => coreShare B C d c r), whole_B, whole_C, whole_O, ← bigSep_sep', ← bigSep_sep',
    ← bigSep_univ_prod (fun p : Fin 2 × Fin 16 => share B C d (wid p.1 p.2) r)]
  exact (bigSep_univ_equiv widEquiv (fun w => share B C d w r)).symm

/-- What the call hands out, and what it takes back. -/
theorem st0_eq (d : Dev nD) :
    (bigSep Finset.univ fun c : Fin ((K (F := F)).nCore 0) => (P B C o).st 0 d c)
      = iprop((bLoc d ↦{fullShare} B d) ∗ (cLoc d ↦{fullShare} C d) ∗ oLoc d ↦{fullShare} o d) := shares_eq B C d (o d)
theorem dn0_eq (d : Dev nD) :
    (bigSep Finset.univ fun c : Fin ((K (F := F)).nCore 0) => (P B C o).dn 0 d c)
      = iprop((bLoc d ↦{fullShare} B d) ∗ (cLoc d ↦{fullShare} C d) ∗ oLoc d ↦{fullShare} (outOf (B d) (C d) : Buf (Elt F) (oLoc d))) :=
  shares_eq B C d (outOf (B d) (C d))

end Cert.Proof.PI

end
-- ==== Proof.PI.Focal.lean ====
/-
  The TensorCore kernel at one grid point: from a block of logits and the block's classes it adds the block's loss to the running total, which the
  first point sets to zero. The proof data of its pipeline name the total after each point.
-/
module

public import proofs.«01_k».proof.Proof.PI.Setup
public import proofs.«01_k».proof.Proof.Gen.KernelIdeal.Points
public import Idealize.ShloMosaic.Lib.Pipeline.FrameBody
public import Idealize.ShloMosaic.Lib.Pipeline.FrameSuffix
public import Idealize.ShloMosaic.Lib.Pipeline.ValueKit.Geometry
public import Idealize.ShloMosaic.Lib.WordCmp
public import Idealize.ShloMosaic.Lib.WritesUnit
public import Idealize.ShloMosaic.Lib.VecWindow
public import Idealize.ShloMosaic.Lib.Pipeline.RegionArrays

@[expose] public section

set_option maxRecDepth 16384

noncomputable section

namespace Cert.Proof.PI

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-! ## The total -/

/-- Block `t`: rows 1024 t … of the logits, and of the classes. -/
def xBlk (X : Vec F S131072x80 .f32) (t : Fin 128) : Vec F S1024x80 .f32 := fun j =>
  X fun | 0 => ⟨1024 * t.val + (j 0).val, by have h : (j 0).val < 1024 := (j 0).isLt; have := t.isLt; show _ < 131072; omega⟩ | 1 => j 1
def tBlk (T : Vec F S131072x1 .i32) (t : Fin 128) : Vec F S1024x1 .i32 := fun j =>
  T fun | 0 => ⟨1024 * t.val + (j 0).val, by have h : (j 0).val < 1024 := (j 0).isLt; have := t.isLt; show _ < 131072; omega⟩ | 1 => j 1

/-- The total after the first `n` blocks. -/
def total (X : Vec F S131072x80 .f32) (T : Vec F S131072x1 .i32) : ℕ → Elt F .f32
  | 0 => Scalar.ofBits .f32 0x00000000#32
  | n + 1 => if h : n < 128 then k0_pay1 (total X T n) (k0_pay2 (xBlk X ⟨n, h⟩) (tBlk T ⟨n, h⟩)) else total X T n

/-- A further block adds its losses to the total. -/
theorem total_succ (X : Vec F S131072x80 .f32) (T : Vec F S131072x1 .i32) (n : ℕ) (h : n < 128) :
    total X T (n + 1) = k0_pay1 (total X T n) (k0_pay2 (xBlk X ⟨n, h⟩) (tBlk T ⟨n, h⟩)) := by rw [total, dif_pos h]

/-! ## The body -/

/-- The condition under which the body resets the total: the first grid point. -/
abbrev isFirst (i : grid0.Coords) : Prop := (Scalar.cmpi .ne (Scalar.extui (Scalar.cmpi .eq (BitVec.ofNat 32 (i 0).val) 0#32)) 0#32) = 1#1
/-- The first step is step zero. -/
theorem isFirst_iff (t : Fin cfg0.N) : isFirst (grid0.coords t) ↔ t.val = 0 := by
  have ht : t.val < 128 := Nat.lt_of_lt_of_eq t.isLt N_0
  have e0 : (grid0.coords t 0).val = t.val / 1 % 128 := Pipeline.Grid.coords_val t 0 (by decide) rfl
  have e1 : t.val / 1 % 128 = t.val := by omega
  simp only [isFirst, e0, e1]
  word_cmp

/-- A one-entry array reads back what was last stored in it. -/
theorem read_one (v : View sig .tc .smem S1x1 .f32) (f : v.ty.Contents (Elt F)) (a : Elt F .f32) (L : List (View.Piece (Elt F) S1x1 .f32)) :
    v.read (Elt F) (v.writes (Elt F) f (⟨Rect.unit (s := S1x1) ![0, 0] S1x1.size inb_S1x1_S1x1_0_0, fun _ => a⟩ :: L)) = fun _ => a := by
  funext x
  exact View.read_writes_cons_unit_of_mem v f inb_S1x1_S1x1_0_0 (fun _ => a) L x x rfl fun | 0 => by simp | 1 => by simp

set_option maxHeartbeats 1000000 in
/-- At the first point: the block's loss, from zero. -/
theorem body_first (c : Dev nD) (i : grid0.Coords) (arg1 : Memref sig .tc .vmem S1024x80 .f32) (harg1 : arg1.IsWhole) (arg2 : Memref sig .tc .vmem S1024x1 .i32)
    (harg2 : arg2.IsWhole) (arg3 : Memref sig .tc .smem S1x1 .f32) (harg3 : arg3.IsWhole) (hi : isFirst i) (x0 : Vec F S1024x80 .f32) (x1 : Vec F S1024x1 .i32)
    (Q : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (fun _ => k0_pay1 (Scalar.ofBits .f32 0x00000000#32) (k0_pay2 x0 x1))) -∗ Q ⟨⟩))
      ⊢ wp frame (wpE (defs₀ (F := F)) Variants.none c none) Set.univ (cc0__focal_body i arg1 harg1 arg2 harg2 arg3 harg3) Q := by
  simp only [cc0__focal_body_eq_skeleton]; unfold cc0__focal_body_skel
  simp only [k0_part1_eq_skeleton]
  unfold owns
  iintro ⟨⟨%f0, %hf0, H0⟩, ⟨%f1, %hf1, H1⟩, ⟨%d2, %f2, -, H2⟩, Hk⟩
  obtain rfl := harg1.eq_unread hf0; obtain rfl := harg2.eq_unread hf1
  sl_exec (disch := first | sl_exact hi)
  sl_step
  iapply Hk
  isplitl [H0]
  · iexists _; isplitr; · ipureintro; exact harg1.read_unread _
    iexact H0
  isplitl [H1]
  · iexists _; isplitr; · ipureintro; exact harg2.read_unread _
    iexact H1
  iexists _; isplitr; swap; · iexact H2
  ipureintro
  refine (read_one arg3.view f2 _ _).trans (funext fun _ => ?_)
  show k0_pay1 (Scalar.ofBits .f32 0x00000000#32) (k0_pay2 (View.readAt (Elt F) arg1.view (Rect.unit ![0, 0] S1024x80.size inb_S1024x80_S1024x80_0_0).toLoadRect (harg1.unread x0))
    (View.readAt (Elt F) arg2.view (Rect.unit ![0, 0] S1024x1.size inb_S1024x1_S1024x1_0_0).toLoadRect (harg2.unread x1))) = _
  rw [View.readAt_full, View.readAt_full, harg1.read_unread, harg2.read_unread]

set_option maxHeartbeats 1000000 in
/-- At a later point: the block's loss added to what the memref holds. -/
theorem body_later (c : Dev nD) (i : grid0.Coords) (arg1 : Memref sig .tc .vmem S1024x80 .f32) (harg1 : arg1.IsWhole) (arg2 : Memref sig .tc .vmem S1024x1 .i32)
    (harg2 : arg2.IsWhole) (arg3 : Memref sig .tc .smem S1x1 .f32) (harg3 : arg3.IsWhole) (hi : ¬ isFirst i) (x0 : Vec F S1024x80 .f32) (x1 : Vec F S1024x1 .i32)
    (a : Elt F .f32) (Q : PUnit → sProp 𝕄) :
    iprop(owns (c : Thread nD τ) arg1 fullShare x0 ∗ owns (c : Thread nD τ) arg2 fullShare x1 ∗ owns (c : Thread nD τ) arg3 fullShare (fun _ => a)
        ∗ (iprop(owns (c : Thread nD τ) arg1 fullShare x0 ∗ owns (c : Thread nD τ) arg2 fullShare x1
            ∗ owns (c : Thread nD τ) arg3 fullShare (fun _ => k0_pay1 a (k0_pay2 x0 x1))) -∗ Q ⟨⟩))
      ⊢ wp frame (wpE (defs₀ (F := F)) Variants.none c none) Set.univ (cc0__focal_body i arg1 harg1 arg2 harg2 arg3 harg3) Q := by
  simp only [cc0__focal_body_eq_skeleton]; unfold cc0__focal_body_skel
  simp only [k0_part1_eq_skeleton]
  unfold owns
  iintro ⟨⟨%f0, %hf0, H0⟩, ⟨%f1, %hf1, H1⟩, ⟨%f2, %hf2, H2⟩, Hk⟩
  obtain rfl := harg1.eq_unread hf0; obtain rfl := harg2.eq_unread hf1; obtain rfl := harg3.eq_unread hf2
  sl_exec (disch := first | sl_exact hi)
  sl_step
  iapply Hk
  isplitl [H0]
  · iexists _; isplitr; · ipureintro; exact harg1.read_unread _
    iexact H0
  isplitl [H1]
  · iexists _; isplitr; · ipureintro; exact harg2.read_unread _
    iexact H1
  iexists _; isplitr; swap; · iexact H2
  ipureintro
  refine (read_one arg3.view _ _ _).trans (funext fun _ => ?_)
  unfold body_later.sl.r body_later.sl.r_1
  rw [View.readAt_full, View.readAt_full, View.readAt_full, harg1.read_unread, harg2.read_unread, harg3.read_unread]

/-! ## The proof data -/

-- `V` is what the buffers hold as the kernel is called, on each core
variable (V : Dev nD → Valuation τ sig (Elt F))

/-- The logits and the classes on core `c`. -/
abbrev xOf (c : Dev nD) : Vec F S131072x80 .f32 := V c (Proc.devRef .tc main_v0)
abbrev tOf (c : Dev nD) : Vec F S131072x1 .i32 := V c (Proc.devRef .tc main_v1)

/-- Window `w`'s block at point `t`, read from its array. -/
def iblk (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- The level below which a TensorCore's waits before the SparseCore call lie. -/
abbrev low : ℕ := 8 * (SparseCore.Cfg.Blocks.fst (Q := 1) (N := 1) 0)

/-- The pipeline's proof data: the inputs' memrefs keep their blocks, the output's memref holds the total so far; meanwhile the core owes what it
    owes before the SparseCore call. -/
def dats (_ : Fin 1) (c : Dev nD) : Dat τ (Elt F) (HIx 1) ℕ UU ℕ cfg0 c where
  A w := V c (Proc.devRef .tc (Pipeline.arrRef spec0 w))
  after w t := match w with
    | ⟨0, _⟩ => iblk V c 0 t
    | ⟨1, _⟩ => iblk V c 1 t
    | ⟨2, _⟩ => fun _ => total (xOf V c) (tOf V c) (t.val + 1)
  Φ _ := Pipeline.scopedRest spec0 c
  q _ := fullShare
  owed _ := (K (F := F)).Otc c 0
  recorded _ := {p | (K (F := F)).lev (SparseCore.T c, p.1) p.2 ≤ low}

/-- The call's arrays are the buffers' contents. -/
theorem A_eq (c : Dev nD) (w : Fin cfg0.W) : (dats V 0 c).A w = V c (Proc.devRef .tc (Pipeline.arrRef spec0 w)) := by dsimp only [dats]
/-- What the windows hold after a step: the inputs' are their blocks, the result's is the total so far. -/
theorem after_0 (c : Dev nD) (t : Fin cfg0.N) : (dats V 0 c).after 0 t = iblk V c 0 t := by dsimp only [dats]
theorem after_1 (c : Dev nD) (t : Fin cfg0.N) : (dats V 0 c).after 1 t = iblk V c 1 t := by dsimp only [dats]
theorem after_2 (c : Dev nD) (t : Fin cfg0.N) : (dats V 0 c).after 2 t = fun _ => total (xOf V c) (tOf V c) (t.val + 1) := by dsimp only [dats]

/-- What the windows hold before a step: the inputs' their blocks, the result's the total of the steps before. -/
theorem before_0 (c : Dev nD) (t : Fin cfg0.N) (d) : (dats V 0 c).before 0 t d = iblk V c 0 t :=
  ((dats V 0 c).before_in_eq_fetched 0 rfl (fun _ => rfl) (fun _ _ _ => rfl)
    (fun t => by rw [after_0]; unfold Dat.blockOf iblk; rw [A_eq]) t d).trans (by unfold Dat.fetched Dat.blockOf iblk; rw [A_eq]; try rfl)
theorem before_1 (c : Dev nD) (t : Fin cfg0.N) (d) : (dats V 0 c).before 1 t d = iblk V c 1 t :=
  ((dats V 0 c).before_in_eq_fetched 1 rfl (fun _ => rfl) (fun _ _ _ => rfl)
    (fun t => by rw [after_1]; unfold Dat.blockOf iblk; rw [A_eq]) t d).trans (by unfold Dat.fetched Dat.blockOf iblk; rw [A_eq]; try rfl)
theorem before_2 (c : Dev nD) (t : Fin cfg0.N) (ht : t.val ≠ 0) (d) : (dats V 0 c).before 2 t d = fun _ => total (xOf V c) (tOf V c) t.val := by
  have hN : t.val < 128 := lt_of_lt_of_eq t.isLt N_0
  rw [Dat.before_out_kept (dats V 0 c) 2 rfl t (by omega) (by
    rw [Bool.eq_false_iff]; intro h; have := (flush0_2 _).mp h; simp only at this; omega) (fun _ => rfl) (fun _ _ => rfl) d, after_2]
  funext _
  congr 1
  simp only
  omega

/-- A block read from its array: the logits', the classes'. -/
theorem iblk_0 (c : Dev nD) (t : Fin cfg0.N) : iblk V c 0 t = xBlk (xOf V c) ⟨t.val, lt_of_lt_of_eq t.isLt N_0⟩ := by
  have e0 : (grid0.coords t 0).val = t.val / 1 % 128 := Pipeline.Grid.coords_val t 0 (by decide) rfl
  have hN : t.val < 128 := lt_of_lt_of_eq t.isLt N_0
  funext j
  unfold iblk xBlk xOf
  refine congrArg (V c (Proc.devRef .tc main_v0)) (funext fun a => Fin.ext ?_)
  revert a
  refine Fin.forall_fin_two.mpr ⟨?_, ?_⟩
  · blk_simp
    have e : win0_0.index t 0 = (grid0.coords t 0).val % 2 ^ 32 := rfl
    show win0_0.index t 0 * 1024 + (j 0).val = 1024 * t.val + (j 0).val
    omega
  · blk_simp
    have e : win0_0.index t 1 = 0 := rfl
    show win0_0.index t 1 * 80 + (j 1).val = (j 1).val
    omega

/-- The second input's block is the block of classes. -/
theorem iblk_1 (c : Dev nD) (t : Fin cfg0.N) : iblk V c 1 t = tBlk (tOf V c) ⟨t.val, lt_of_lt_of_eq t.isLt N_0⟩ := by
  have e0 : (grid0.coords t 0).val = t.val / 1 % 128 := Pipeline.Grid.coords_val t 0 (by decide) rfl
  have hN : t.val < 128 := lt_of_lt_of_eq t.isLt N_0
  funext j
  unfold iblk tBlk tOf
  refine congrArg (V c (Proc.devRef .tc main_v1)) (funext fun a => Fin.ext ?_)
  revert a
  refine Fin.forall_fin_two.mpr ⟨?_, ?_⟩
  · blk_simp
    have e : win0_1.index t 0 = (grid0.coords t 0).val % 2 ^ 32 := rfl
    show win0_1.index t 0 * 1024 + (j 0).val = 1024 * t.val + (j 0).val
    omega
  · blk_simp
    have e : win0_1.index t 1 = 0 := rfl
    exact e

/-! ## The body's obligation -/

/-- What the body finds at point `t`, and what it leaves. -/
def bodyPre (c : Dev nD) (t : Fin cfg0.N) : sProp 𝕄 :=
  iprop((dats V 0 c).Φ t.castSucc ∗ (dats V 0 c).owesAt none t.castSucc
    ∗ (∃ d, owns (c : Thread nD τ) (st0_0 t) fullShare ((dats V 0 c).before 0 t d))
    ∗ (∃ d, owns (c : Thread nD τ) (st0_1 t) fullShare ((dats V 0 c).before 1 t d))
    ∗ (∃ d, owns (c : Thread nD τ) (st0_2 t) fullShare ((dats V 0 c).before 2 t d)))
/-- What a step leaves in its three windows. -/
def bodyPost (c : Dev nD) (t : Fin cfg0.N) : sProp 𝕄 :=
  iprop((dats V 0 c).Φ t.succ ∗ (dats V 0 c).owesAt none t.succ
    ∗ owns (c : Thread nD τ) (st0_0 t) fullShare ((dats V 0 c).after 0 t)
    ∗ owns (c : Thread nD τ) (st0_1 t) fullShare ((dats V 0 c).after 1 t)
    ∗ owns (c : Thread nD τ) (st0_2 t) fullShare ((dats V 0 c).after 2 t))

set_option maxHeartbeats 800000 in
/-- The body at any point takes the one to the other. -/
theorem body_at (c : Dev nD) (t : Fin cfg0.N) :
    bodyPre V c t ⊢ wp frame (wpE (defs₀ (F := F)) Variants.none c none) Set.univ (bodyAt0 t) (fun _ => bodyPost V c t) := by
  have hN : t.val < 128 := lt_of_lt_of_eq t.isLt N_0
  unfold bodyPre bodyPost bodyAt0
  simp only [before_0, before_1]
  rw [show (dats V 0 c).Φ t.succ = (dats V 0 c).Φ t.castSucc from rfl,
    show (dats V 0 c).owesAt none t.succ = (dats V 0 c).owesAt none t.castSucc from rfl, after_0, after_1, after_2, iblk_0, iblk_1,
    total_succ _ _ _ hN]
  by_cases h0 : t.val = 0
  · rw [show total (xOf V c) (tOf V c) t.val = Scalar.ofBits .f32 0x00000000#32 from by rw [h0]; rfl]
    iintro ⟨HΦ, Ho, ⟨%d0, H0⟩, ⟨%d1, H1⟩, ⟨%d2, H2⟩⟩
    iapply (body_first c (grid0.coords t) _ _ _ _ _ _ ((isFirst_iff t).mpr h0) (xBlk (xOf V c) ⟨t.val, hN⟩) (tBlk (tOf V c) ⟨t.val, hN⟩) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · simp only [before_2 V c t h0]
    iintro ⟨HΦ, Ho, ⟨%d0, H0⟩, ⟨%d1, H1⟩, ⟨%d2, H2⟩⟩
    iapply (body_later c (grid0.coords t) _ _ _ _ _ _ (fun h => h0 ((isFirst_iff t).mp h)) (xBlk (xOf V c) ⟨t.val, hN⟩) (tBlk (tOf V c) ⟨t.val, hN⟩)
      (total (xOf V c) (tOf V c) t.val) _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The body that a step runs. -/
theorem bodies_row (t : Fin cfg0.N) : defs₀ (F := F) .tc cfg0.body (cfg0.bodyArgs t (cfg0.slots t)) = bodyAt0 t := by
  rfl

/-- Each step takes the windows from what they hold before it to what they hold after it. -/
theorem obligation (c : Dev nD) : BodyObligation (dats (F := F) V 0 c) (defs₀ (F := F)) Variants.none none Set.univ := fun t => by
  rw [bigSep_W0, bigSep_W0, bodies_row]
  exact triple_restated (body_at V c t) rfl .rfl fun _ => .rfl

/-! ## The array afterwards -/

/-- The output array ends holding the total of the 128 blocks. -/
theorem total_array (c : Dev nD) : (dats V 0 c).arrAt 2 cfg0.N = (fun _ => total (xOf V c) (tOf V c) 128 : Vec F S1x1 .f32) := by
  refine Dat.arrAt_eq_of_after_last (dats V 0 c) 2 ⟨127, by rw [show cfg0.N = 128 from N_0]; omega⟩ (by decide +kernel) _ fun j => ?_
  rw [after_2]
  rfl

end Cert.Proof.PI

end
-- ==== Proof.PI.Region.lean ====
/-
  The TensorCore kernel's call as one step of @main: holding the three arrays, it returns with the output array at the total of the 128 blocks.
-/
module

public import proofs.«01_k».proof.Proof.PI.Focal

@[expose] public section

set_option maxRecDepth 16384

noncomputable section

namespace Cert.Proof.PI

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held)
open Idealize.ShloMosaic.Pipeline (Dat Cfg Window BodyObligation cellOf RegionSeg)

variable {F : FTy → Type} [FloatOps F]

local notation "𝕄" => MT nD τ sig (HIx 1) (Elt F) ℕ UU ℕ

variable (V : Dev nD → Valuation τ sig (Elt F))

/-- The three arrays of the kernel. -/
abbrev arrs : Finset (DevRef τ sig) := Pipeline.arrRefs spec0

/-- What the buffers hold after the call: the output array at the total, the others as before. -/
def after₀ (c : Dev nD) : Valuation τ sig (Elt F) :=
  Function.update (V c) (Proc.devRef .tc main_v6) (fun _ => total (xOf V c) (tOf V c) 128 : Vec F S1x1 .f32)

/-- After the first call its result is the total, and every other buffer is as before. -/
theorem after₀_v6 (c : Dev nD) : after₀ V c (Proc.devRef .tc main_v6) = (fun _ => total (xOf V c) (tOf V c) 128 : Vec F S1x1 .f32) := by
  unfold after₀; exact Function.update_self _ _ _
theorem after₀_of_ne (c : Dev nD) (b : DevRef τ sig) (h : b ≠ Proc.devRef .tc main_v6) : after₀ V c b = V c b := by
  unfold after₀; exact Function.update_of_ne h _ _

/-- What a TensorCore owes before the SparseCore call, its recorded waits low. -/
def owing (c : Dev nD) : sProp 𝕄 :=
  iprop(∃ W, ⌜(K (F := F)).WBelow (SparseCore.T c) W low⌝ ∗ owes (SparseCore.T c) ((K (F := F)).Otc c 0) W)

/-- The one pipeline is admissible. -/
abbrev adms (p : Fin 1) : (pcfgs (F := F) p).Adm := (cfgs p).toPCfg_adm

/-- The TensorCore owes nothing before the second call. -/
theorem Otc_none (c : Dev nD) (g : GSem nD τ sig) : (K (F := F)).Otc c 0 g none = 0 := by
  by_contra h
  have h' := SparseCore.Cfg.lev_of_Otc_pos (K := K (F := F)) (Nat.pos_of_ne_zero h)
  rw [SparseCore.Cfg.lev_none] at h'
  omega

/-- The pipeline's waits are allowed. -/
theorem waits (c : Dev nD) : (levAts (K (F := F)).L (K (F := F)).lev : sProp 𝕄) ⊢ Pipeline.cellsWaits (Pipeline.pin (pcfgs (F := F)) adms) (dats V) none 0 c :=
  Pipeline.cellsWaits_intro (Pipeline.pin (pcfgs (F := F)) adms) (dats V) none 0 c fun w s t => by
    show _ ⊢ MayWait (SparseCore.T c) _ none ((K (F := F)).Otc c 0)
    exact (K (F := F)).mayWait_none _ (Otc_none c)

/-- The call's arrays before the first step and after the last. -/
theorem arrays_before (c : Dev nD) : ((dats V 0 c).arrays ((dats V 0 c).arrAt · 0) : sProp 𝕄) = held (c.tc : Thread nD τ) arrs (V c) := by
  refine Pipeline.arrays_held (pcfgs (F := F)) adms (dats V) 0 launch0.toP c ((dats V 0 c).share_full fun _ => rfl) _ _ fun w => ?_
  rfl

theorem arrays_after (c : Dev nD) : ((dats V 0 c).arrays ((dats V 0 c).arrAt · cfg0.N) : sProp 𝕄) = held (c.tc : Thread nD τ) arrs (after₀ V c) := by
  refine Pipeline.arrays_held (pcfgs (F := F)) adms (dats V) 0 launch0.toP c ((dats V 0 c).share_full fun _ => rfl) _ _ fun w => ?_
  match w with
  | ⟨0, _⟩ => exact (Dat.arrAt_in (dats V 0 c) 0 rfl _).trans (after₀_of_ne V c (Proc.devRef .tc main_v0) (by decide)).symm
  | ⟨1, _⟩ => exact (Dat.arrAt_in (dats V 0 c) 1 rfl _).trans (after₀_of_ne V c (Proc.devRef .tc main_v1) (by decide)).symm
  | ⟨2, _⟩ => exact (total_array V c).trans (after₀_v6 V c).symm

/-- The call's proof data as the library takes it. -/
def region : RegionSeg (pcfgs (F := F)) adms (dats V) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (obligation V c).loose
  hwaits := waits V
  pre c := iprop(held (c.tc : Thread nD τ) arrs (V c) ∗ owing c)
  post c := iprop(held (c.tc : Thread nD τ) arrs (after₀ V c) ∗ owing c)
  X _ := iprop(emp)
  Y _ := iprop(emp)
  Z _ := iprop(emp)
  hentry c := by
    rw [Pipeline.ownSems0_none, Pipeline.prefHeld_of_none _ rfl]
    iintro ⟨⟨Ha, HO⟩, -, -⟩
    imodintro
    isplitl [Ha]; · iapply (Entails.of_eq (arrays_before V c).symm); iexact Ha
    isplitr; · iempintro
    isplitl [HO]
    · unfold owing Dat.owesAt Pipeline.owesWithin Dat.bound
      icases HO with ⟨%W, %hW, HO⟩
      iexists W; isplitr
      · ipureintro; exact fun p hp => Or.inl (hW p hp)
      iexact HO
    isplitr <;> iempintro
  hin c := by
    rw [Pipeline.prefHeld_of_none _ rfl]
    exact sep_elim_right.trans sep_elim_right
  hout c := by
    rw [Pipeline.ownSems0_none]
    show Pipeline.scopedRest spec0 c ⊢ iprop(emp ∗ emp ∗ Pipeline.scopedRest spec0 c)
    iintro Hr
    isplitr; · iempintro
    isplitr; · iempintro
    iexact Hr
  hexit c := by
    iintro ⟨Ha, HO, -, -⟩
    imodintro
    isplitl [Ha]; · iapply (Entails.of_eq (arrays_after V c)); iexact Ha
    unfold owing Dat.owesAt Pipeline.owesWithin Dat.bound
    icases HO with ⟨%W, %hW, HO⟩
    iexists W; isplitr
    · ipureintro
      intro p hp
      rcases hW hp with h | ⟨w, s, rfl⟩
      · exact h
      · exact Nat.zero_le _
    iexact HO

end Cert.Proof.PI

end
-- ==== Proof.PI.Main.lean ====
/-
  @main on the TensorCore, and the run of the whole program: it ends with every unscoped buffer at the contents that the operations and the two kernels
  give it, one after the other.
-/
module

public import proofs.«01_k».proof.Proof.PI.Launch
public import proofs.«01_k».proof.Proof.PI.Region

@[expose] public section

set_option maxRecDepth 16384

noncomputable section

namespace Cert.Proof.PI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held after)
open Idealize.ShloMosaic.Pipeline (ucRefs RegionSeg)

variable {F : FTy → Type} [FloatOps F]

local notation "𝕄" => MT nD τ sig (HIx 1) (Elt F) ℕ UU ℕ

/-! ## The operations of @main -/

/-- @main up to the TensorCore kernel: the reshapes and the eight box columns. -/
abbrev opsBefore : List (HloOp τ sig (Elt F)) :=
  [StableHlo.reshape main_arg0 main_v0 (rfl : (.f32 : EltTy) = .f32) shapeCasts_S8x16384x80_S131072x80,
   StableHlo.reshape main_arg3 main_v1 (rfl : (.i32 : EltTy) = .i32) shapeCasts_S131072_S131072x1,
   StableHlo.reshape main_arg1 main_v2 (rfl : (.f32 : EltTy) = .f32) shapeCasts_S8x16384x4_S131072x4,
   StableHlo.unary main_v2 main_v3 ((transpose S4x131072 [1, 0] · transposes_S131072x4_S4x131072_1_0) : (⟨S131072x4, .f32⟩ : BufTy).Contents (Elt F) → (⟨S4x131072, .f32⟩ : BufTy).Contents (Elt F)),
   StableHlo.unary main_arg4 main_v4 ((transpose S4x131072 [1, 0] · transposes_S131072x4_S4x131072_1_0) : (⟨S131072x4, .f32⟩ : BufTy).Contents (Elt F) → (⟨S4x131072, .f32⟩ : BufTy).Contents (Elt F)),
   StableHlo.binary main_v3 main_v4 main_v5 ((fun a b => concatenate S8x131072 0 [⟨S4x131072, a⟩, ⟨S4x131072, b⟩] concatenates_S4x131072_S4x131072_S8x131072_d0) : (⟨S4x131072, .f32⟩ : BufTy).Contents (Elt F) → (⟨S4x131072, .f32⟩ : BufTy).Contents (Elt F) → (⟨S8x131072, .f32⟩ : BufTy).Contents (Elt F))]
/-- Between the two kernels: the total as a scalar. -/
abbrev opsBetween : List (HloOp τ sig (Elt F)) :=
  [StableHlo.reshape main_v6 main_v7 (rfl : (.f32 : EltTy) = .f32) shapeCasts_S1x1_S_]
/-- After the SparseCore call: the sums of the two halves of its result, the divisor, the two results. -/
abbrev opsAfter : List (HloOp τ sig (Elt F)) :=
  [StableHlo.unary main_v8 main_v9 ((extractStridedSlice S32x1x16 ![0, 0, 0] · slices_S32x2x16_S32x1x16_0_0_0) : (⟨S32x2x16, .f32⟩ : BufTy).Contents (Elt F) → (⟨S32x1x16, .f32⟩ : BufTy).Contents (Elt F)),
   StableHlo.reshape main_v9 main_v10 (rfl : (.f32 : EltTy) = .f32) shapeCasts_S32x1x16_S32x16,
   StableHlo.nullary main_cst (constant S_ .f32 0x00000000#32),
   StableHlo.binary main_v10 main_cst main_v11 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F)),
   StableHlo.unary main_v8 main_v12 ((extractStridedSlice S32x1x16 ![0, 1, 0] · slices_S32x2x16_S32x1x16_0_1_0) : (⟨S32x2x16, .f32⟩ : BufTy).Contents (Elt F) → (⟨S32x1x16, .f32⟩ : BufTy).Contents (Elt F)),
   StableHlo.reshape main_v12 main_v13 (rfl : (.f32 : EltTy) = .f32) shapeCasts_S32x1x16_S32x16,
   StableHlo.nullary main_cst_0 (constant S_ .f32 0x00000000#32),
   StableHlo.binary main_v13 main_cst_0 main_v14 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F)),
   StableHlo.nullary main_cst_1 (constant S_ .f32 0x3F800000#32),
   StableHlo.binary main_v14 main_cst_1 main_v15 (maximumf : (⟨S_, .f32⟩ : BufTy).Contents (Elt F) → (⟨S_, .f32⟩ : BufTy).Contents (Elt F) → (⟨S_, .f32⟩ : BufTy).Contents (Elt F)),
   StableHlo.binary main_v7 main_v15 main_v16 (Host.divf : (⟨S_, .f32⟩ : BufTy).Contents (Elt F) → (⟨S_, .f32⟩ : BufTy).Contents (Elt F) → (⟨S_, .f32⟩ : BufTy).Contents (Elt F)),
   StableHlo.binary main_v11 main_v15 main_v17 (Host.divf : (⟨S_, .f32⟩ : BufTy).Contents (Elt F) → (⟨S_, .f32⟩ : BufTy).Contents (Elt F) → (⟨S_, .f32⟩ : BufTy).Contents (Elt F))]

/-- @main is these, with the two kernels between them. -/
theorem main_eq (d : Dev nD) : main (F := F) d = (StableHlo.seq opsBefore >>= fun _ => (Prog.lift (.customCall (SparseCore.inner (Pipeline.entry 0)) ()) >>= fun _ =>
    (StableHlo.seq opsBetween >>= fun _ => ((K (F := F)).run d 0 >>= fun _ => (StableHlo.seq opsAfter >>= fun _ => pure ⟨⟩))))) := by
  simp only [main, StableHlo.seq, bind_assoc, pure_bind]

/-! ## The buffers' contents, step by step -/

variable (m : (ℓ : Loc nD τ sig) → Buf (Elt F) ℓ) (ρ : Dev nD → PrngReg)

def V0 (d : Dev nD) : Valuation τ sig (Elt F) := fun b => m (d, b)
def V1 (d : Dev nD) : Valuation τ sig (Elt F) := after opsBefore (V0 m d)
def V2 (d : Dev nD) : Valuation τ sig (Elt F) := after₀ (V1 m) d
def V3 (d : Dev nD) : Valuation τ sig (Elt F) := after opsBetween (V2 m d)
/-- The arrays of the SparseCore call as it is made: its two operands, its result. -/
abbrev boxesOf (d : Dev nD) : Buf (Elt F) (bLoc d) := V3 m d (Proc.devRef .tc main_v5)
abbrev classesOf (d : Dev nD) : Buf (Elt F) (cLoc d) := V3 m d (Proc.devRef .tc main_arg3)
abbrev resultOf (d : Dev nD) : Buf (Elt F) (oLoc d) := V3 m d (Proc.devRef .tc main_v8)
def V4 (d : Dev nD) : Valuation τ sig (Elt F) :=
  Function.update (V3 m d) (Proc.devRef .tc main_v8) (outOf (boxesOf m d) (classesOf m d) : Buf (Elt F) (oLoc d))
def V5 (d : Dev nD) : Valuation τ sig (Elt F) := after opsAfter (V4 m d)

/-- After the SparseCore call the result array holds what the workers compute, and every other buffer is as before. -/
theorem V4_result (d : Dev nD) : V4 m d (Proc.devRef .tc main_v8) = (outOf (boxesOf m d) (classesOf m d) : Buf (Elt F) (oLoc d)) := by
  unfold V4; exact Function.update_self _ _ _
theorem V4_of_ne (d : Dev nD) (b : DevRef τ sig) (h : b ≠ Proc.devRef .tc main_v8) : V4 m d b = V3 m d b := by
  unfold V4; exact Function.update_of_ne h _ _

/-- What the handshakes carry in this program. -/
abbrev pay : (K (F := F)).Pay (nD := nD) (Val := Elt F) (Name := ℕ) (U := UU) := P (boxesOf m) (classesOf m) (resultOf m)

/-- Every operation's buffers are unscoped buffers of the TensorCore, and no operation allocates. -/
theorem before_sub : ∀ op ∈ opsBefore (F := F), op.bufs ⊆ ucRefs τ sig := fun op h => Pipeline.sub_ucRefs op
  (List.forall_iff_forall_mem.mp (show ((opsBefore (F := F)).Forall fun op => op.bufs ⊆ StableHlo.tcRefs τ sig) from
    ⟨StableHlo.reshape_bufs_sub .., StableHlo.reshape_bufs_sub .., StableHlo.reshape_bufs_sub .., StableHlo.unary_bufs_sub .., StableHlo.unary_bufs_sub .., StableHlo.binary_bufs_sub ..⟩) op h)
/-- The operations between and after the calls stay in the unscoped buffers. -/
theorem between_sub : ∀ op ∈ opsBetween (F := F), op.bufs ⊆ ucRefs τ sig := fun op h => Pipeline.sub_ucRefs op
  (List.forall_iff_forall_mem.mp (show ((opsBetween (F := F)).Forall fun op => op.bufs ⊆ StableHlo.tcRefs τ sig) from
    StableHlo.reshape_bufs_sub ..) op h)
theorem after_sub : ∀ op ∈ opsAfter (F := F), op.bufs ⊆ ucRefs τ sig := fun op h => Pipeline.sub_ucRefs op
  (List.forall_iff_forall_mem.mp (show ((opsAfter (F := F)).Forall fun op => op.bufs ⊆ StableHlo.tcRefs τ sig) from
    ⟨StableHlo.unary_bufs_sub .., StableHlo.reshape_bufs_sub .., StableHlo.nullary_bufs_sub .., StableHlo.binary_bufs_sub .., StableHlo.unary_bufs_sub .., StableHlo.reshape_bufs_sub .., StableHlo.nullary_bufs_sub .., StableHlo.binary_bufs_sub .., StableHlo.nullary_bufs_sub .., StableHlo.binary_bufs_sub .., StableHlo.binary_bufs_sub .., StableHlo.binary_bufs_sub ..⟩) op h)
/-- No operation makes a fresh buffer. -/
theorem before_fresh : ∀ op ∈ opsBefore (F := F), op.fresh = ∅ :=
  List.forall_iff_forall_mem.mp (by simp only [List.Forall]; repeat' constructor)
theorem between_fresh : ∀ op ∈ opsBetween (F := F), op.fresh = ∅ :=
  List.forall_iff_forall_mem.mp (by simp only [List.Forall]; repeat' constructor)
theorem after_fresh : ∀ op ∈ opsAfter (F := F), op.fresh = ∅ :=
  List.forall_iff_forall_mem.mp (by simp only [List.Forall]; repeat' constructor)

/-! ## The launch element -/

/-- The resource that the launch starts from, and its division among the threads. -/
def u₀ : UU := (initOf (K (F := F)).hsCells (K (F := F)).hsToks,
  (initOf (Pipeline.cells cfgs cellOf_inj) (Pipeline.launchToks cfgs cellOf_inj), 1))

/-- What the launch deals the TensorCore of `d`: the ghost state of its kernel's staging cells. -/
def dealt (d : Dev nD) : sProp 𝕄 := iprop(Pipeline.cellsGhost (Pipeline.pin (pcfgs (F := F)) adms) EP 0 d ∗ Pipeline.toksInit (Pipeline.pin (pcfgs (F := F)) adms) EP 0 d)

/-- Dealt per device: the two halves of the ghost state, each over the devices and the one kernel. -/
theorem deal_eq : iprop((bigSep Finset.univ fun c : Dev nD => bigSep Finset.univ fun p : Fin 1 => Pipeline.cellsGhost (Pipeline.pin (pcfgs (F := F)) adms) EP p c)
      ∗ (bigSep Finset.univ fun c : Dev nD => bigSep Finset.univ fun p : Fin 1 => (Pipeline.toksInit (Pipeline.pin (pcfgs (F := F)) adms) EP p c : sProp 𝕄)))
    = (bigSep Finset.univ fun d : Dev nD => dealt d) := by
  unfold dealt
  rw [bigSep_sep']
  congr 1 <;> exact bigSep_congr fun d _ => bigSep_univ_of_subsingleton (0 : Fin 1)
theorem nothing_x : (bigSep Finset.univ fun thr : Thread nD τ => bigSep Finset.univ fun q : Fin 1 => (pay m).x q thr) = (iprop(emp) : sProp 𝕄) :=
  (bigSep_congr fun _ _ => bigSep_univ_of_subsingleton (0 : Fin 1)).trans (bigSep_emp_const _)

theorem hu₀ : (ownU (u₀ (F := F)) : sProp 𝕄)
    ⊢ |={Set.univ}=> iprop(BI.own (EH (initOf (K (F := F)).hsCells (K (F := F)).hsToks)) ∗ (bigSep Finset.univ fun d : Dev nD => dealt d)
        ∗ bigSep Finset.univ fun thr : Thread nD τ => bigSep Finset.univ fun q : Fin 1 => (pay m).x q thr) := by
  unfold u₀
  iintro Hu
  ihave H := (ownU_pair _ _) $$ Hu
  icases H with ⟨HH, Hr⟩
  ihave H2 := (own_pair_emb embR _ _) $$ Hr
  icases H2 with ⟨HP, -⟩
  imod (Pipeline.fund_ghost (Pipeline.pin (pcfgs (F := F)) adms) EP cellOf_inj) $$ HP with ⟨Hg, Ht⟩
  imodintro
  isplitl [HH]; · iexact HH
  isplitl [Hg Ht]
  · iapply (Entails.of_eq (deal_eq (F := F))); isplitl [Hg] <;> iassumption
  rw [nothing_x m]; iempintro

/-! ## @main -/

/-- The first call's arrays, and the second's, are unscoped buffers. -/
theorem arrs_sub : arrs ⊆ ucRefs τ sig := Pipeline.arrRefs_sub_ucRefs spec0 winFacts0.arr_unscoped

/-- The SparseCore call's arrays out of the rest, before and after it. -/
abbrev three : Finset (DevRef τ sig) := {Proc.devRef .tc main_v5, Proc.devRef .tc main_arg3, Proc.devRef .tc main_v8}
theorem three_sub : three ⊆ ucRefs τ sig := by
  intro b hb
  simp only [three, Finset.mem_insert, Finset.mem_singleton] at hb
  rcases hb with rfl | rfl | rfl <;> exact Finset.mem_filter.mpr ⟨StableHlo.devRef_mem_tcRefs _, by decide⟩
/-- Holding the second call's three arrays is holding each of them. -/
theorem held_three (d : Dev nD) (W : Valuation τ sig (Elt F)) :
    (held (d.tc : Thread nD τ) three W : sProp 𝕄) = iprop((bLoc d ↦{fullShare} (W (Proc.devRef .tc main_v5) : Buf (Elt F) (bLoc d)))
      ∗ (cLoc d ↦{fullShare} (W (Proc.devRef .tc main_arg3) : Buf (Elt F) (cLoc d))) ∗ oLoc d ↦{fullShare} (W (Proc.devRef .tc main_v8) : Buf (Elt F) (oLoc d))) := by
  unfold held three
  rw [SparseCore.bigSep_insert' (by decide), SparseCore.bigSep_insert' (by decide), bigSep_singleton]
/-- The three arrays taken out of all buffers before the second call, and put back after it. -/
theorem split_before (d : Dev nD) : (held (d.tc : Thread nD τ) (ucRefs τ sig) (V3 m d) : sProp 𝕄)
    = iprop(((bLoc d ↦{fullShare} boxesOf m d) ∗ (cLoc d ↦{fullShare} classesOf m d) ∗ oLoc d ↦{fullShare} resultOf m d)
        ∗ held (d.tc : Thread nD τ) (ucRefs τ sig \ three) (V3 m d)) := by
  rw [StableHlo.held_sub_split _ three_sub, held_three]
theorem split_after (d : Dev nD) : (held (d.tc : Thread nD τ) (ucRefs τ sig) (V4 m d) : sProp 𝕄)
    = iprop(((bLoc d ↦{fullShare} boxesOf m d) ∗ (cLoc d ↦{fullShare} classesOf m d)
          ∗ oLoc d ↦{fullShare} (outOf (boxesOf m d) (classesOf m d) : Buf (Elt F) (oLoc d)))
        ∗ held (d.tc : Thread nD τ) (ucRefs τ sig \ three) (V3 m d)) := by
  rw [StableHlo.held_sub_split _ three_sub, held_three, V4_result, V4_of_ne m d _ (by decide), V4_of_ne m d _ (by decide),
    StableHlo.held_congr _ fun b hb => V4_of_ne m d b fun e => (Finset.mem_sdiff.mp hb).2 (by rw [e]; decide)]
/-- The first call's arrays taken out of all buffers, and put back. -/
theorem split_region (d : Dev nD) : (held (d.tc : Thread nD τ) (ucRefs τ sig) (V1 m d) : sProp 𝕄)
    = iprop(held (d.tc : Thread nD τ) arrs (V1 m d) ∗ held (d.tc : Thread nD τ) (ucRefs τ sig \ arrs) (V1 m d)) :=
  StableHlo.held_sub_split _ arrs_sub _
theorem join_region (d : Dev nD) : (held (d.tc : Thread nD τ) (ucRefs τ sig) (V2 m d) : sProp 𝕄)
    = iprop(held (d.tc : Thread nD τ) arrs (after₀ (V1 m) d) ∗ held (d.tc : Thread nD τ) (ucRefs τ sig \ arrs) (V1 m d)) := by
  rw [StableHlo.held_sub_split _ arrs_sub]
  exact congrArg (fun x => iprop(held (d.tc : Thread nD τ) arrs (after₀ (V1 m) d) ∗ x))
    (StableHlo.held_congr _ fun b hb => after₀_of_ne (V1 m) d b fun e => (Finset.mem_sdiff.mp hb).2 (by rw [e]; decide))

/-- The buffers as the launch gives them. -/
theorem start_held (d : Dev nD) : (unscopedBufs d (fun b => m ((SparseCore.T d).loc b)) : sProp 𝕄) = held (d.tc : Thread nD τ) (ucRefs τ sig) (V0 m d) :=
  Pipeline.unscopedBufs_held d (V0 m d)

/-- The buffers at the end. -/
abbrev FIN (d : Dev nD) : sProp 𝕄 := held (d.tc : Thread nD τ) (ucRefs τ sig) (V5 m d)

/-- What the claims read of a final state: every unscoped buffer of the TensorCore at its contents. -/
def fq (d : Dev nD) (s' : Phys nD τ sig (Elt F)) : Prop := ∀ b ∈ ucRefs τ sig, s'.mem.mem (d, b) = V5 m d b

/-- The TensorCore kernel's call: the buffers from `V1` to `V2`, what the TensorCore owes lent to it. -/
theorem call_region [∀ e, Nonempty (Elt F e)] (d : Dev nD) (Φ : PUnit → sProp 𝕄) :
    iprop((boundary (d.tc : Thread nD τ) ∗ held (d.tc : Thread nD τ) (ucRefs τ sig) (V1 m d)) ∗ owing d ∗ dealt d ∗ levAts (K (F := F)).L (K (F := F)).lev)
      ⊢ iprop(((boundary (d.tc : Thread nD τ) ∗ held (d.tc : Thread nD τ) (ucRefs τ sig) (V2 m d)) ∗ owing d -∗ Φ ⟨⟩)
        -∗ wp frame (wpE ((K (F := F)).defs (D (F := F))) 𝒱 (SparseCore.T d) none) Set.univ
            (Prog.lift (.customCall (SparseCore.inner (Pipeline.entry 0)) ())) Φ) := by
  iintro ⟨⟨Hb, Hheld⟩, HO, Hdealt, #Hlev⟩ Hk
  ihave Hh := (Entails.of_eq (split_region m d)) $$ Hheld
  icases Hh with ⟨Ha, Hoff⟩
  unfold dealt
  icases Hdealt with ⟨Hg, Ht⟩
  iapply ((K (F := F)).wp_liftProg (D (F := F)) 𝒱 (SparseCore.T d) Set.univ none (.op (.customCall (Pipeline.entry 0) ()) fun _ => pure ⟨⟩) Φ)
  iapply (RegionSeg.wp (pcfgs (F := F)) adms (dats (V1 m)) none cellOf_inj EP defs₀ 𝒱₀ (K (F := F)).L (K (F := F)).lev (region (V1 m)) d none (fun _ h => nomatch h)
    (fun _ => pure ⟨⟩) Φ) $$ [Hb Ha HO Hg Ht Hoff Hk]
  isplitl [Hoff Hk]
  · iintro ⟨Hb, Hpost⟩
    ihave Hp := (Entails.of_eq (show (region (V1 m)).post d = iprop(held (d.tc : Thread nD τ) arrs (after₀ (V1 m) d) ∗ owing d) from rfl)) $$ Hpost
    icases Hp with ⟨Ha, HO⟩
    rw [wp_pure]; imodintro
    iapply Hk
    isplitl [Hb Ha Hoff]
    · isplitl [Hb]; · iexact Hb
      iapply (Entails.of_eq (join_region m d).symm)
      isplitl [Ha] <;> iassumption
    iexact HO
  isplitl [Hb]; · iexact Hb
  isplitl [Ha HO]
  · iapply (Entails.of_eq (show iprop(held (d.tc : Thread nD τ) arrs (V1 m d) ∗ owing d) = (region (V1 m)).pre d from rfl))
    isplitl [Ha]; · iexact Ha
    iexact HO
  isplitr; · iexact Hlev
  isplitl [Hg]; · iexact Hg
  iexact Ht

/-- What else the TensorCore holds before the SparseCore call. -/
def rest (d : Dev nD) : sProp 𝕄 :=
  iprop(atPos EH ((K (F := F)).doneCell d) 0 ∅ 0 ∗ reached EH ((K (F := F)).doneCell d) 0
    ∗ (bigSep Finset.univ fun c : Fin τ.nSC => reached EH ((K (F := F)).startCell d c) ((K (F := F)).sRank c 0))
    ∗ bigSep (SparseCore.Cfg.callsFrom 0) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last q)) 1)))
/-- The TensorCore's state before the second call. -/
theorem tcSt_zero (d : Dev nD) : ((K (F := F)).tcSt EH d 0 : sProp 𝕄) = iprop(owing d ∗ rest d) := rfl

/-- The host program runs from the launch's buffers to the final ones. -/
theorem hmain [∀ e, Nonempty (Elt F e)] (κ : GSem nD τ sig → ℕ) (d : Dev nD) :
    iprop((K (F := F)).ctx EH (pay m) κ ∗ (K (F := F)).tcSt EH d 0 ∗ (K (F := F)).tcRes m ρ d ∗ dealt d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [start_held, main_eq]
  iintro ⟨#Hctx, Hst, ⟨Hb, Hheld, Hts, -⟩, Hdealt⟩
  iapply (StableHlo.wp_seq 𝒱 none Set.univ d (ucRefs τ sig) _ opsBefore before_sub before_fresh (V0 m d)) $$ [Hb Hheld]
  · isplitl [Hb] <;> iassumption
  iintro H
  rw [wp_bind]
  ihave Hst' := (Entails.of_eq (tcSt_zero d)) $$ Hst
  icases Hst' with ⟨HO, Hrest⟩
  iapply (call_region m d) $$ [H HO Hdealt]
  · isplitl [H]; · iexact H
    isplitl [HO]; · iexact HO
    isplitl [Hdealt]; · iexact Hdealt
    iapply ((K (F := F)).ctx_levAts (EH := EH) (P := pay m) κ); iexact Hctx
  iintro ⟨H, HO⟩
  iapply (StableHlo.wp_seq 𝒱 none Set.univ d (ucRefs τ sig) _ opsBetween between_sub between_fresh (V2 m d)) $$ [H]
  · iexact H
  iintro ⟨Hb, Hheld⟩
  ihave Hh := (Entails.of_eq (show (held (d.tc : Thread nD τ) (ucRefs τ sig) (after opsBetween (V2 m d)) : sProp 𝕄) = _ from split_before m d)) $$ Hheld
  icases Hh with ⟨H3, Hoff⟩
  rw [wp_bind]
  iapply ((K (F := F)).wp_run (D (F := F)) 𝒱 (EH := EH) (P := pay m) κ d 0) $$ [HO Hrest H3 Hb Hoff Hts]
  isplitr; · iexact Hctx
  isplitl [HO Hrest]
  · iapply (Entails.of_eq (show iprop(owing d ∗ rest d) = (K (F := F)).tcSt EH d (0 : Fin 1).val from rfl))
    isplitl [HO]; · iexact HO
    iexact Hrest
  isplitl [H3]
  · rw [st0_eq]; iexact H3
  iintro ⟨Hst, Hdn⟩
  ihave H3 := (Entails.of_eq (dn0_eq _ _ _ d)) $$ Hdn
  ihave Hheld := (Entails.of_eq (split_after m d).symm) $$ [H3 Hoff]
  · isplitl [H3] <;> iassumption
  iapply (StableHlo.wp_seq 𝒱 none Set.univ d (ucRefs τ sig) _ opsAfter after_sub after_fresh (V4 m d)) $$ [Hb Hheld]
  · isplitl [Hb] <;> iassumption
  iintro ⟨Hb, Hheld⟩
  rw [wp_pure]; imodintro
  isplitl [Hst]; · iexact Hst
  isplitl [Hheld]; · iexact Hheld
  isplitl [Hb] <;> iassumption

/-! ## The run -/

/-- The final buffers hold what was computed. -/
theorem hfin (d : Dev nD) (s' : Phys nD τ sig (Elt F)) : iprop(FIN m d ∗ SI s') ⊢ (⌜fq m d s'⌝ : sProp 𝕄) := by
  refine (pointsTo_read_all (ucRefs τ sig) (fun b => (d, b)) (fun b => V5 m d b) s').trans sep_elim_left

/-- Every execution ends, with every unscoped buffer at `V5` and no semaphore raised. -/
theorem run_main [∀ e, Nonempty (Elt F e)] : θ_run (Cert.KernelIdeal.defs (F := F)) (Cert.KernelIdeal.threads (F := F)) ⟨m, fun _ => 0, ρ⟩
    (fun r => (∀ d : Dev nD, ∀ b ∈ ucRefs τ sig, r.2.mem (d, b) = V5 m d b) ∧ r.2.sem = fun _ => 0) :=
  SparseCore.Cfg.θ_run_sc_quiescent (K := K (F := F)) (D := D (F := F)) (𝒱 := 𝒱) (EH := EH) (P := pay m) (A := ∅) facts v₀
    (fun q hq => match q with | 0 => nomatch hq)
    (fun q _ => match q with | 0 => tileObl _ _ _ facts)
    (fun q _ => match q with | 0 => SparseCore.Cfg.VecSplit.of_plain (vecSplit _ _ _))
    m ρ main (fun d => dealt d) (FIN m) (u₀ (F := F)) (sep_elim_left.trans (hu₀ m)) (hmain m ρ) (fq m) (hfin m) _ (fun _ h hz => ⟨h, hz⟩)

end Cert.Proof.PI

end
-- ==== Proof.PI.Results.lean ====
/-
  What the program leaves: its five arguments as they were, and its two results as plain functions of them.
-/
module

public import proofs.«01_k».proof.Proof.PI.Main

@[expose] public section

set_option maxRecDepth 16384

noncomputable section

namespace Cert.Proof.PI

open Cert.KernelIdeal Cert.KernelIdeal.Gen

open Idealize.ShloMosaic Idealize.ShloMosaic.TcCoe
open Idealize.SL.Sem
open Idealize.ShloMosaic.StableHlo (after)
open Idealize.ShloMosaic.Pipeline (ucRefs)

variable {F : FTy → Type} [FloatOps F]

/-! ## The two results as functions of the arguments -/

/-- The eight box columns: four of the predictions, four of the targets. -/
def boxes (P : Vec F S8x16384x4 .f32) (Q : Vec F S131072x4 .f32) : Vec F S8x131072 .f32 :=
  concatenate S8x131072 0 [⟨S4x131072, transpose S4x131072 [1, 0] (shapeCast S131072x4 P shapeCasts_S8x16384x4_S131072x4) transposes_S131072x4_S4x131072_1_0⟩,
    ⟨S4x131072, transpose S4x131072 [1, 0] Q transposes_S131072x4_S4x131072_1_0⟩] concatenates_S4x131072_S4x131072_S8x131072_d0

/-- The sum of the tasks' losses, and the sum of their counts, at least one. -/
def lossSum (O : Vec F S32x2x16 .f32) : Vec F S_ .f32 :=
  Host.reduceAdd (shapeCast S32x16 (extractStridedSlice S32x1x16 ![0, 0, 0] O slices_S32x2x16_S32x1x16_0_0_0) shapeCasts_S32x1x16_S32x16)
    (constant S_ .f32 0x00000000#32) reducesTo_S32x16_S_d0_1 h_S_
def divisor (O : Vec F S32x2x16 .f32) : Vec F S_ .f32 :=
  maximumf (Host.reduceAdd (shapeCast S32x16 (extractStridedSlice S32x1x16 ![0, 1, 0] O slices_S32x2x16_S32x1x16_0_1_0) shapeCasts_S32x1x16_S32x16)
    (constant S_ .f32 0x00000000#32) reducesTo_S32x16_S_d0_1 h_S_) (constant S_ .f32 0x3F800000#32)

/-- The class loss and the box loss. -/
def clsLoss (X : Vec F S8x16384x80 .f32) (P : Vec F S8x16384x4 .f32) (T : Vec F S131072 .i32) (Q : Vec F S131072x4 .f32) : Vec F S_ .f32 :=
  Host.divf (fun _ => total (shapeCast S131072x80 X shapeCasts_S8x16384x80_S131072x80) (shapeCast S131072x1 T shapeCasts_S131072_S131072x1) 128)
    (divisor (outOf (boxes P Q) T))
def boxLoss (P : Vec F S8x16384x4 .f32) (T : Vec F S131072 .i32) (Q : Vec F S131072x4 .f32) : Vec F S_ .f32 :=
  Host.divf (lossSum (outOf (boxes P Q) T)) (divisor (outOf (boxes P Q) T))

/-! ## Reading the buffers -/

variable (m : (ℓ : Loc nD τ sig) → Buf (Elt F) ℓ) (ρ : Dev nD → PrngReg)

/-- Any buffer that neither the operations nor the two kernels write. -/
theorem V3_unwritten (d : Dev nD) (r : Ref sig .tc) (h : r ∉ ([main_v0, main_v1, main_v2, main_v3, main_v4, main_v5, main_v6, main_v7] : List (Ref sig .tc))) :
    V3 m d (Proc.devRef .tc r) = m ((d.tc : Thread nD τ).loc r) := by
  simp only [List.mem_cons, List.not_mem_nil, or_false, not_or] at h
  obtain ⟨h0, h1, h2, h3, h4, h5, h6, h7⟩ := h
  show after opsBetween (V2 m d) _ = _
  rw [StableHlo.after_cons, StableHlo.after_nil, StableHlo.reshape_result_ne _ _ _ _ _ _ _ h7]
  show after₀ (V1 m) d _ = _
  rw [after₀_of_ne _ _ _ (StableHlo.devRef_ne_of_ne h6)]
  show after opsBefore (V0 m d) _ = _
  simp only [StableHlo.after_cons, StableHlo.after_nil]
  rw [StableHlo.binary_result_ne _ _ _ _ _ _ _ _ h5, StableHlo.unary_result_ne _ _ _ _ _ _ h4, StableHlo.unary_result_ne _ _ _ _ _ _ h3,
    StableHlo.reshape_result_ne _ _ _ _ _ _ _ h2, StableHlo.reshape_result_ne _ _ _ _ _ _ _ h1, StableHlo.reshape_result_ne _ _ _ _ _ _ _ h0]
  rfl

/-- The arguments end as they were. -/
theorem V5_arg (d : Dev nD) (r : Ref sig .tc) (h : r ∈ ([main_arg0, main_arg1, main_arg2, main_arg3, main_arg4] : List (Ref sig .tc))) :
    V5 m d (Proc.devRef .tc r) = m ((d.tc : Thread nD τ).loc r) := by
  have hne : ∀ a ∈ ([main_arg0, main_arg1, main_arg2, main_arg3, main_arg4] : List (Ref sig .tc)),
      ∀ b ∈ ([main_v8, main_v9, main_v10, main_cst, main_v11, main_v12, main_v13, main_cst_0, main_v14, main_cst_1, main_v15, main_v16, main_v17] : List (Ref sig .tc)), a ≠ b := by
    decide
  have hlt : ∀ a ∈ ([main_arg0, main_arg1, main_arg2, main_arg3, main_arg4] : List (Ref sig .tc)),
      a ∉ ([main_v0, main_v1, main_v2, main_v3, main_v4, main_v5, main_v6, main_v7] : List (Ref sig .tc)) := by decide
  have ne := hne r h
  show after opsAfter (V4 m d) _ = _
  simp only [StableHlo.after_cons, StableHlo.after_nil]
  rw [StableHlo.binary_result_ne _ _ _ _ _ _ _ _ (ne main_v17 (by decide)), StableHlo.binary_result_ne _ _ _ _ _ _ _ _ (ne main_v16 (by decide)),
    StableHlo.binary_result_ne _ _ _ _ _ _ _ _ (ne main_v15 (by decide)), StableHlo.nullary_result_ne _ _ _ _ (ne main_cst_1 (by decide)),
    StableHlo.binary_result_ne _ _ _ _ _ _ _ _ (ne main_v14 (by decide)), StableHlo.nullary_result_ne _ _ _ _ (ne main_cst_0 (by decide)),
    StableHlo.reshape_result_ne _ _ _ _ _ _ _ (ne main_v13 (by decide)), StableHlo.unary_result_ne _ _ _ _ _ _ (ne main_v12 (by decide)),
    StableHlo.binary_result_ne _ _ _ _ _ _ _ _ (ne main_v11 (by decide)), StableHlo.nullary_result_ne _ _ _ _ (ne main_cst (by decide)),
    StableHlo.reshape_result_ne _ _ _ _ _ _ _ (ne main_v10 (by decide)), StableHlo.unary_result_ne _ _ _ _ _ _ (ne main_v9 (by decide)),
    V4_of_ne m d _ (StableHlo.devRef_ne_of_ne (ne main_v8 (by decide)))]
  exact V3_unwritten m d r (hlt r h)

/-- The box columns as the SparseCore call reads them. -/
theorem boxesOf_eq (d : Dev nD) : boxesOf m d = boxes (m ((d.tc : Thread nD τ).loc main_arg1)) (m ((d.tc : Thread nD τ).loc main_arg4)) := by
  show after opsBetween (V2 m d) _ = _
  rw [StableHlo.after_cons, StableHlo.after_nil, StableHlo.reshape_result_ne _ _ _ _ _ _ _ (by decide)]
  show after₀ (V1 m) d _ = _
  rw [after₀_of_ne _ _ _ (by decide)]
  show after opsBefore (V0 m d) _ = _
  after_results
  rfl

/-- The total as a scalar, read where the last operations read it. -/
theorem total_eq (d : Dev nD) : V3 m d (Proc.devRef .tc main_v7) = (fun _ => total (shapeCast S131072x80 (m ((d.tc : Thread nD τ).loc main_arg0)) shapeCasts_S8x16384x80_S131072x80)
      (shapeCast S131072x1 (m ((d.tc : Thread nD τ).loc main_arg3)) shapeCasts_S131072_S131072x1) 128 : Vec F S_ .f32) := by
  have hx : xOf (V1 m) d = shapeCast S131072x80 (m ((d.tc : Thread nD τ).loc main_arg0)) shapeCasts_S8x16384x80_S131072x80 := by
    show after opsBefore (V0 m d) _ = _
    after_results
    rfl
  have ht : tOf (V1 m) d = shapeCast S131072x1 (m ((d.tc : Thread nD τ).loc main_arg3)) shapeCasts_S131072_S131072x1 := by
    show after opsBefore (V0 m d) _ = _
    after_results
    rfl
  show after opsBetween (V2 m d) _ = _
  rw [StableHlo.after_cons, StableHlo.after_nil, StableHlo.reshape_result]
  unfold V2
  rw [after₀_v6, hx, ht]
  rfl

/-- The classes as the SparseCore call reads them. -/
theorem classesOf_eq (d : Dev nD) : classesOf m d = m ((d.tc : Thread nD τ).loc main_arg3) := V3_unwritten m d main_arg3 (by decide)

/-- The SparseCore call's result from the arguments. -/
theorem V4_v8 (d : Dev nD) : V4 m d (Proc.devRef .tc main_v8)
    = (outOf (boxes (m ((d.tc : Thread nD τ).loc main_arg1)) (m ((d.tc : Thread nD τ).loc main_arg4))) (m ((d.tc : Thread nD τ).loc main_arg3)) : Vec F S32x2x16 .f32) := by
  rw [V4_result, boxesOf_eq, classesOf_eq]

/-- The two results from the arguments. -/
theorem V5_v16 (d : Dev nD) : V5 m d (Proc.devRef .tc main_v16) = clsLoss (m ((d.tc : Thread nD τ).loc main_arg0)) (m ((d.tc : Thread nD τ).loc main_arg1))
    (m ((d.tc : Thread nD τ).loc main_arg3)) (m ((d.tc : Thread nD τ).loc main_arg4)) := by
  show after opsAfter (V4 m d) _ = _
  after_results
  rw [V4_v8, V4_of_ne m d _ (by decide), total_eq]
  rfl

theorem V5_v17 (d : Dev nD) : V5 m d (Proc.devRef .tc main_v17) = boxLoss (m ((d.tc : Thread nD τ).loc main_arg1))
    (m ((d.tc : Thread nD τ).loc main_arg3)) (m ((d.tc : Thread nD τ).loc main_arg4)) := by
  show after opsAfter (V4 m d) _ = _
  after_results
  rw [V4_v8]
  rfl

/-! ## The run, read at the arguments and the results -/

/-- An unscoped buffer is one of those held at the end. -/
theorem mem_ucRefs (r : Ref sig .tc) (h : ¬ (Proc.devRef (τ := τ) .tc r).isScoped) : Proc.devRef (τ := τ) .tc r ∈ ucRefs τ sig :=
  Finset.mem_filter.mpr ⟨StableHlo.devRef_mem_tcRefs _, h⟩

/-- Every execution ends with the two results at `clsLoss` and `boxLoss` of the arguments, the arguments as they were and no semaphore raised. -/
theorem run_results [∀ e, Nonempty (Elt F e)] : θ_run (Cert.KernelIdeal.defs (F := F)) (Cert.KernelIdeal.threads (F := F)) ⟨m, fun _ => 0, ρ⟩ (fun r =>
    (∀ c : Dev nD, (r.2.mem ((c.tc : Thread nD τ).loc main_v16) = clsLoss (m ((c.tc : Thread nD τ).loc main_arg0)) (m ((c.tc : Thread nD τ).loc main_arg1))
          (m ((c.tc : Thread nD τ).loc main_arg3)) (m ((c.tc : Thread nD τ).loc main_arg4))
        ∧ r.2.mem ((c.tc : Thread nD τ).loc main_v17) = boxLoss (m ((c.tc : Thread nD τ).loc main_arg1))
          (m ((c.tc : Thread nD τ).loc main_arg3)) (m ((c.tc : Thread nD τ).loc main_arg4)))
      ∧ ∀ a ∈ ([main_arg0, main_arg1, main_arg2, main_arg3, main_arg4] : List (Ref sig .tc)),
          r.2.mem ((c.tc : Thread nD τ).loc a) = m ((c.tc : Thread nD τ).loc a)) ∧ r.2.sem = fun _ => 0) := by
  refine (θ_run Cert.KernelIdeal.defs _ _).mono (fun r h => ⟨fun c => ⟨⟨?_, ?_⟩, ?_⟩, h.2⟩) (run_main m ρ)
  · exact (h.1 c _ (mem_ucRefs main_v16 (by decide))).trans (V5_v16 m c)
  · exact (h.1 c _ (mem_ucRefs main_v17 (by decide))).trans (V5_v17 m c)
  · have hs : ∀ a ∈ ([main_arg0, main_arg1, main_arg2, main_arg3, main_arg4] : List (Ref sig .tc)), ¬ (Proc.devRef (τ := τ) .tc a).isScoped := by decide
    exact fun a ha => (h.1 c _ (mem_ucRefs a (hs a ha))).trans (V5_arg m c a ha)

end Cert.Proof.PI

end
-- ==== Proof.Math.Pre.lean ====
/-
  What the precondition says of the arguments: no class is negative, and no entry of the mask is set.
-/
module

public import proofs.«01_k».proof.Pre_in_range
public import proofs.«01_k».proof.Proof.Gen.Pre_in_range
public import Idealize.ShloMosaic.Lib.Pointwise
public import Idealize.ShloMosaic.PureOps.Ideal

@[expose] public section

set_option maxRecDepth 16384

noncomputable section

namespace Cert.Proof.Math

open Idealize.ShloMosaic Cert.Pre_in_range

/-- Of two bits whose conjunction is set, both are. -/
theorem andi_set : ∀ a b : BitVec 1, IntOp.andi a b = 1#1 → a = 1#1 ∧ b = 1#1 := by decide

/-- If a conjunction over a finite set is set, so is each of its members. -/
theorem member_of_fold_andi {ι : Type} (s : Finset ι) (p : ι → BitVec 1) (h : s.fold IntOp.andi 1#1 p = 1#1) : ∀ x ∈ s, p x = 1#1 := by
  classical
  induction s using Finset.induction_on with
  | empty => intro x hx; exact absurd hx (Finset.notMem_empty x)
  | insert a s ha ih =>
    rw [Finset.fold_insert ha] at h
    obtain ⟨h1, h2⟩ := andi_set _ _ h
    intro x hx
    rcases Finset.mem_insert.1 hx with rfl | hx
    · exact h1
    · exact ih h2 x hx

/-- Of two bits whose disjunction is clear, both are. -/
theorem ori_clear : ∀ a b : BitVec 1, IntOp.ori a b = 0#1 → a = 0#1 ∧ b = 0#1 := by decide

/-- If a disjunction over a finite set is clear, so is each of its members. -/
theorem member_of_fold_ori {ι : Type} (s : Finset ι) (p : ι → BitVec 1) (h : s.fold IntOp.ori 0#1 p = 0#1) : ∀ x ∈ s, p x = 0#1 := by
  classical
  induction s using Finset.induction_on with
  | empty => intro x hx; exact absurd hx (Finset.notMem_empty x)
  | insert a s ha ih =>
    rw [Finset.fold_insert ha] at h
    obtain ⟨h1, h2⟩ := ori_clear _ _ h
    intro x hx
    rcases Finset.mem_insert.1 hx with rfl | hx
    · exact h1
    · exact ih h2 x hx

/-- A bit whose complement is set is clear. -/
theorem compl_set : ∀ a : BitVec 1, ~~~a = 1#1 → a = 0#1 := by decide

/-- Under the precondition every class is at least zero, and the mask is clear. -/
theorem of_in_range (X : FVec Ideal S8x16384x80 .f32) (P : FVec Ideal S8x16384x4 .f32) (M : IVec S8x16384 1) (T : IVec S131072 32)
    (Q : FVec Ideal S131072x4 .f32) (h : fn (F := Ideal) X P M T Q = fun _ => 1#1) :
    (∀ i : Fin 131072, IntOp.cmpi .sge (T (ix1 i)) 0#32 = 1#1) ∧ ∀ (r : Fin 8) (s : Fin 16384), M (ix2 r s) = 0#1 := by
  have h := congrFun h ix0
  pointwise [fn] at h
  obtain ⟨h1, h2⟩ := andi_set _ _ h
  exact ⟨fun i => member_of_fold_andi _ _ h1 i (Finset.mem_univ i),
    fun r s => member_of_fold_ori _ _ (compl_set _ h2) (r, s) (Finset.mem_univ _)⟩

end Cert.Proof.Math

end
-- ==== Proof.Math.Cell.lean ====
/-
  The focal loss of one cell: the kernel's formula, which selects by the cell's target bit, is the reference's, which multiplies by the target.
-/
module

public import Idealize.ShloMosaic.Lib.Pointwise
public import Idealize.ShloMosaic.PureOps.Ideal.Laws

@[expose] public section

noncomputable section

namespace Cert.Proof.Math

open Idealize.ShloMosaic

/-- The kernel's probability: `1 / (1 + e)` or `e / (1 + e)` at `e = exp (-|x|)`, by the sign of `x`. -/
def probK (x : EReal) : EReal :=
  if 0 ≤ x then Ideal.div 1 (1 + Ideal.exp (0 - max x (-x))) else Ideal.exp (0 - max x (-x)) * Ideal.div 1 (1 + Ideal.exp (0 - max x (-x)))

/-- The reference's probability. -/
def probR (x : EReal) : EReal := Ideal.div 1 (1 + Ideal.exp (-x))

/-- The kernel's focal loss of a cell with logit `x` and target bit `b`; `a` and `a'` are the weights of the two classes. -/
def cellK (a a' : EReal) (b : BitVec 1) (x : EReal) : EReal :=
  Scalar.select b a a' * (max x 0 - Scalar.select b x 0 + Ideal.log1p (Ideal.exp (0 - max x (-x))))
    * (Scalar.select b (1 - probK x) (probK x) * Scalar.select b (1 - probK x) (probK x))

/-- The reference's focal loss of a cell with logit `x` and target `h`. -/
def cellR (a a' h x : EReal) : EReal :=
  (a * h + a' * (1 - h)) * ((max x 0 - x * h + Ideal.log1p (Ideal.exp (-max x (-x))))
    * Ideal.pow (1 - (probR x * h + (1 - probR x) * (1 - h))) (Ideal.ofBits .f32 0x40000000#32))

/-- The pattern of two. -/
theorem ofBits_two : Ideal.ofBits .f32 0x40000000#32 = ((2 : ℝ) : EReal) := by
  have hn : ((0x40000000#32 : BitVec 32).extractLsb' (8 + 23) 1 == 1#1) = false := by decide
  have he : ((0x40000000#32 : BitVec 32).extractLsb' 23 8).toNat = 128 := by decide
  have hf : ((0x40000000#32 : BitVec 32).extractLsb' 0 23).toNat = 0 := by decide
  show Ideal.ieee 8 23 (0x40000000#32 : BitVec 32) = _
  unfold Ideal.ieee
  simp only [hn, he, hf]
  norm_num

/-- One over a nonzero real is its inverse. -/
theorem div_one_coe (r : ℝ) (h : r ≠ 0) : Ideal.div 1 (r : EReal) = ((r⁻¹ : ℝ) : EReal) := by
  rw [Ideal.div, if_neg (by exact_mod_cast h), one_mul, EReal.coe_inv]

/-- The two probabilities are one real number. -/
theorem probs (x : EReal) : ∃ p : ℝ, probK x = p ∧ probR x = p := by
  induction x using EReal.rec with
  | bot =>
    refine ⟨0, ?_, ?_⟩
    · simp [probK]
    · have h : (1 : EReal) + ⊤ = ⊤ := EReal.add_top_of_ne_bot (by decide)
      simp [probR, Ideal.div, h]
  | top =>
    refine ⟨1, ?_, ?_⟩
    · simp [probK, Ideal.div]
    · simp [probR, Ideal.div]
  | coe r =>
    have hm : ∀ s : ℝ, Ideal.div 1 (1 + Ideal.exp (s : EReal)) = (((1 + Real.exp s)⁻¹ : ℝ) : EReal) := fun s => by
      have := Real.exp_pos s
      rw [Ideal.exp_coe, ← EReal.coe_one, ← EReal.coe_add, EReal.coe_one, div_one_coe _ (by positivity)]
    refine ⟨(1 + Real.exp (-r))⁻¹, ?_, ?_⟩
    · unfold probK
      by_cases h : 0 ≤ r
      · rw [if_pos (by exact_mod_cast h), zero_sub, max_eq_left (by exact_mod_cast (by linarith : -r ≤ r)), ← EReal.coe_neg, hm]
      · rw [if_neg (by exact_mod_cast h), zero_sub, max_eq_right (by exact_mod_cast (by linarith : r ≤ -r)), neg_neg, hm, Ideal.exp_coe, ← EReal.coe_mul]
        congr 1
        have h1 := Real.exp_pos r
        rw [Real.exp_neg]
        field_simp
        ring
    · unfold probR; rw [← EReal.coe_neg, hm]

/-- One minus a real. -/
theorem one_sub_coe (p : ℝ) : (1 : EReal) - p = ((1 - p : ℝ) : EReal) := by rw [EReal.coe_sub, EReal.coe_one]

/-- A real's power with exponent two is its square. -/
theorem pow_two_coe (u : ℝ) : Ideal.pow (u : EReal) ((2 : ℝ) : EReal) = (u : EReal) * u := by
  show ((Real.rpow u 2 : ℝ) : EReal) = _
  rw [← EReal.coe_mul]
  congr 1
  show u ^ (2 : ℝ) = u * u
  rw [show (2 : ℝ) = ((2 : ℕ) : ℝ) from by norm_num, Real.rpow_natCast]
  ring

/-- One minus one is zero on the extended reals. -/
theorem one_sub_one : (1 : EReal) - 1 = 0 := by rw [← EReal.coe_one, ← EReal.coe_sub, sub_self, EReal.coe_zero]

/-- A cell of the row's class. -/
theorem cell_one (a a' x : EReal) : cellK a a' 1#1 x = cellR a a' 1 x := by
  obtain ⟨p, hk, hr⟩ := probs x
  unfold cellK cellR
  rw [hk, hr, one_sub_one, mul_one, mul_zero, add_zero, mul_one, mul_one, mul_zero, add_zero, zero_sub, one_sub_coe, ofBits_two, pow_two_coe]
  exact mul_assoc _ _ _

/-- A cell of another class. -/
theorem cell_zero (a a' x : EReal) : cellK a a' 0#1 x = cellR a a' 0 x := by
  obtain ⟨p, hk, hr⟩ := probs x
  unfold cellK cellR
  rw [hk, hr, sub_zero, mul_one, mul_zero, mul_zero, mul_one, mul_zero, zero_add, zero_add, zero_sub, one_sub_coe, one_sub_coe, sub_sub_cancel, ofBits_two, pow_two_coe]
  exact mul_assoc _ _ _

end Cert.Proof.Math

end
-- ==== Proof.Math.Giou.lean ====
/-
  The loss of a pair of boxes, one minus their generalized intersection over union, on extended reals. A box is its four corners' coordinates:
  left, top, right, bottom.
-/
module

public import Idealize.ShloMosaic.Lib.Pointwise
public import Idealize.ShloMosaic.PureOps.Ideal.Laws

@[expose] public section

noncomputable section

namespace Cert.Proof.Math

open Idealize.ShloMosaic

/-- The area of a box. -/
def areaOf (p : Fin 4 → EReal) : EReal := (p 2 - p 0) * (p 3 - p 1)

/-- The area two boxes share. -/
def interOf (p q : Fin 4 → EReal) : EReal := max (min (p 2) (q 2) - max (p 0) (q 0)) 0 * max (min (p 3) (q 3) - max (p 1) (q 1)) 0

/-- The area of the smallest box around both. -/
def hullOf (p q : Fin 4 → EReal) : EReal := max (max (p 2) (q 2) - min (p 0) (q 0)) 0 * max (max (p 3) (q 3) - min (p 1) (q 1)) 0

/-- The area two boxes cover. -/
def unionOf (p q : Fin 4 → EReal) : EReal := areaOf p + areaOf q - interOf p q

/-- The loss of two boxes. -/
def giou (p q : Fin 4 → EReal) : EReal :=
  1 - (Ideal.div (interOf p q) (unionOf p q) - Ideal.div (hullOf p q - unionOf p q) (hullOf p q))

/-- The weights of the two classes. -/
abbrev wPos : EReal := Ideal.ofBits .f32 0x3E800000#32
abbrev wNeg : EReal := Ideal.ofBits .f32 0x3F400000#32

end Cert.Proof.Math

end
-- ==== Proof.Math.Sums.lean ====
/-
  Sums over the extended reals as the two programs take them: a recursion that adds one term a step is a sum, and a sum over 131072 rows may be
  taken by blocks of rows.
-/
module

public import Idealize.ShloMosaic.Lib.Pointwise

@[expose] public section

noncomputable section

namespace Cert.Proof.Math

open Idealize.ShloMosaic

/-- A recursion that starts at zero and adds `f n` at step `n` has come to the sum of `f` after `N` steps. -/
theorem sum_of_steps {N : ℕ} (g : ℕ → EReal) (f : Fin N → EReal) (h0 : g 0 = 0) (hs : ∀ n (h : n < N), g (n + 1) = g n + f ⟨n, h⟩) : g N = ∑ t, f t := by
  have key : ∀ n ≤ N, g n = ∑ k ∈ Finset.range n, if h : k < N then f ⟨k, h⟩ else 0 := fun n => by
    induction n with
    | zero => intro _; rw [h0, Finset.sum_range_zero]
    | succ n ih => intro h; rw [Finset.sum_range_succ, ← ih (by omega), hs n (by omega), dif_pos (show n < N by omega)]
  rw [key N le_rfl, ← Fin.sum_univ_eq_sum_range]
  exact Finset.sum_congr rfl fun t _ => dif_pos t.isLt

/-- The rows by 128 blocks of 1024. -/
theorem sum_blocks (f : Fin 131072 → EReal) : ∑ i, f i = ∑ t : Fin 128, ∑ r : Fin 1024, f ⟨1024 * t.val + r.val, by omega⟩ := by
  rw [Fin.sum_univ_tiles 128 1024 rfl f]
  exact Finset.sum_congr rfl fun t _ => Finset.sum_congr rfl fun r _ => congrArg f (Fin.ext (by show t.val * 1024 + r.val = 1024 * t.val + r.val; omega))

/-- The rows by 32 workers, and a worker's by 16 lanes of 256 trips. -/
theorem sum_workers (f : Fin 131072 → EReal) :
    ∑ i, f i = ∑ w : Fin 32, ∑ x : Fin 16, ∑ k : Fin 256, f ⟨4096 * w.val + (16 * k.val + x.val), by omega⟩ := by
  rw [Fin.sum_univ_tiles 32 4096 rfl f]
  refine Finset.sum_congr rfl fun w _ => ?_
  rw [Fin.sum_univ_tiles 256 16 rfl fun y : Fin 4096 => f ⟨w.val * 4096 + y.val, by omega⟩, Finset.sum_comm]
  exact Finset.sum_congr rfl fun x _ => Finset.sum_congr rfl fun k _ => congrArg f (Fin.ext (by show w.val * 4096 + (k.val * 16 + x.val) = 4096 * w.val + (16 * k.val + x.val); omega))

end Cert.Proof.Math

end
-- ==== Proof.Math.KernelSums.lean ====
/-
  The kernels' accumulators as sums over the anchors, of the class losses, of the box losses and of the count.
-/
module

public import proofs.«01_k».proof.Proof.PI.Results
public import proofs.«01_k».proof.Proof.Math.Cell
public import proofs.«01_k».proof.Proof.Math.Giou
public import proofs.«01_k».proof.Proof.Math.Sums

@[expose] public section

set_option maxRecDepth 16384

noncomputable section

namespace Cert.Proof.Math

open Cert.KernelIdeal Cert.KernelIdeal.Gen Idealize.ShloMosaic Cert.Proof.PI

/-! ## The class losses -/

/-- An entry of a block of logits is an entry of the array. -/
theorem xBlk_at (X : FVec Ideal S131072x80 .f32) (t : Fin 128) (r : Fin 1024) (l : Fin 80) :
    xBlk (F := Ideal) X t (ix2 r l : S1024x80.Idx) = X (ix2 ⟨1024 * t + r, by omega⟩ l) :=
  congrArg X (by idx_ext)

/-- An entry of a block of classes is an entry of the array. -/
theorem tBlk_at (T : IVec S131072 32) (t : Fin 128) (r : Fin 1024) :
    tBlk (F := Ideal) (shapeCast S131072x1 T shapeCasts_S131072_S131072x1) t (ix2 r 0 : S1024x1.Idx) = T (ix1 ⟨1024 * t + r, by omega⟩) := by
  pointwise [tBlk]

/-- The class loss of one cell of a block. -/
theorem pay2_at (x : FVec Ideal S1024x80 .f32) (t : IVec S1024x1 32) (r : Fin 1024) (l : Fin 80) :
    k0_pay2 (F := Ideal) x t (ix3 0 r l : S1x1024x80.Idx)
      = cellK wPos wNeg (IntOp.cmpi .eq (BitVec.ofNat 32 l) (t (ix2 r 0))) (x (ix2 r l)) := by
  pointwise [k0_pay2]
  rfl

/-- One block adds its cells to the running total. -/
theorem pay1_at (a : Ideal .f32) (v : FVec Ideal S1x1024x80 .f32) :
    k0_pay1 (F := Ideal) a v = a + ∑ r : Fin 1024, ∑ l : Fin 80, v (ix3 0 r l) := by
  pointwise [k0_pay1]

/-- The running total after every block: the sum over the anchors and the classes. -/
theorem total_at (X : FVec Ideal S131072x80 .f32) (T : IVec S131072 32) :
    total (F := Ideal) X (shapeCast S131072x1 T shapeCasts_S131072_S131072x1) 128
      = ∑ i : Fin 131072, ∑ l : Fin 80, cellK wPos wNeg (IntOp.cmpi .eq (BitVec.ofNat 32 l) (T (ix1 i))) (X (ix2 i l)) := by
  rw [sum_blocks]
  refine sum_of_steps (N := 128) _ _ Ideal.ofBits_zero_f32 fun t h => ?_
  rw [total_succ _ _ _ h, pay1_at]
  refine congrArg _ (Finset.sum_congr rfl fun r _ => Finset.sum_congr rfl fun l _ => ?_)
  rw [pay2_at, xBlk_at, tBlk_at]

/-! ## The box losses and the count -/

/-- A lane of a worker's boxes at a trip is an entry of the array. -/
theorem boxRow_at (B : FVec Ideal S8x131072 .f32) (w : Fin 32) (r : Fin 8) (k : Fin 256) (x : Fin 16) :
    boxRow (F := Ideal) (boxTile B w) r k (ix2 0 x : S1x16.Idx) = B (ix2 r ⟨4096 * w + (16 * k + x), by omega⟩ : S8x131072.Idx) :=
  congrArg B (by idx_ext)

/-- A lane of a worker's classes at a trip is an entry of the array. -/
theorem clsRow_at (T : IVec S131072 32) (w : Fin 32) (k : Fin 256) (x : Fin 16) :
    clsRow (F := Ideal) (clsTile T w) k (ix1 x : S16.Idx) = T (ix1 ⟨4096 * w + (16 * k + x), by omega⟩ : S131072.Idx) :=
  congrArg T (by idx_ext)

/-- The bit of an anchor's class: set when the class is not the background. -/
abbrev bit (T : IVec S131072 32) (i : Fin 131072) : BitVec 1 := IntOp.cmpi .ne (T (ix1 i)) 80#32

/-- Box `i` of an array of boxes. -/
abbrev boxAt (A : FVec Ideal S131072x4 .f32) (i : Fin 131072) : Fin 4 → EReal := fun r => A (ix2 i r)

/-- The first four and the last four columns of a lane. -/
abbrev laneP (b : FVec Ideal S8x4096 .f32) (k : Fin 256) (x : Fin 16) : Fin 4 → EReal := fun r => boxRow (F := Ideal) b ⟨r, by omega⟩ k (ix2 0 x)
abbrev laneQ (b : FVec Ideal S8x4096 .f32) (k : Fin 256) (x : Fin 16) : Fin 4 → EReal := fun r => boxRow (F := Ideal) b ⟨r + 4, by omega⟩ k (ix2 0 x)

/-- One trip adds to a lane the loss of the lane's two boxes, if the anchor's class is not the background. -/
theorem trip_loss (b : FVec Ideal S8x4096 .f32) (c : IVec S4096 32) (k : Fin 256) (acc : FVec Ideal S16 .f32 × FVec Ideal S16 .f32) (x : Fin 16) :
    (trip (F := Ideal) b c k acc).1 (ix1 x)
      = acc.1 (ix1 x) + Scalar.select (IntOp.cmpi .ne (clsRow (F := Ideal) c k (ix1 x)) 80#32) (giou (laneP b k x) (laneQ b k x)) 0 := by
  pointwise [trip, k1_pay1, k1_pay2, k1_pay3, k1_pay4, k1_pay5, k1_pay6, k1_pay7, k1_pay8, k1_pay9, k1_pay10, k1_pay11, k1_pay12, k1_pay13, k1_pay14,
    k1_pay15, k1_pay16, k1_pay18, k1_pay19]
  rfl

/-- One trip adds one to a lane's count, if the anchor's class is not the background. -/
theorem trip_count (b : FVec Ideal S8x4096 .f32) (c : IVec S4096 32) (k : Fin 256) (acc : FVec Ideal S16 .f32 × FVec Ideal S16 .f32) (x : Fin 16) :
    (trip (F := Ideal) b c k acc).2 (ix1 x) = acc.2 (ix1 x) + Scalar.select (IntOp.cmpi .ne (clsRow (F := Ideal) c k (ix1 x)) 80#32) 1 0 := by
  pointwise [trip, k1_pay1, k1_pay2, k1_pay3, k1_pay4, k1_pay5, k1_pay6, k1_pay7, k1_pay8, k1_pay9, k1_pay10, k1_pay11, k1_pay12, k1_pay13, k1_pay14,
    k1_pay15, k1_pay16, k1_pay18, k1_pay19]

/-- A lane starts at zero. -/
theorem start_at (x : Fin 16) : k1_pay17 (F := Ideal) (ix1 x) = 0 := by
  pointwise [k1_pay17]

/-- A trip of a task, from the state before it. -/
theorem accs_succ (b : FVec Ideal S8x4096 .f32) (c : IVec S4096 32) (k : Fin 256) :
    accs (F := Ideal) b c (k.val + 1) = trip b c k (accs b c k.val) := by
  rw [accs, dif_pos k.isLt]

/-- A lane's loss after all trips is the sum over the trips. -/
theorem accs_loss (b : FVec Ideal S8x4096 .f32) (c : IVec S4096 32) (x : Fin 16) :
    (accs (F := Ideal) b c 256).1 (ix1 x)
      = ∑ k : Fin 256, Scalar.select (IntOp.cmpi .ne (clsRow (F := Ideal) c k (ix1 x)) 80#32) (giou (laneP b k x) (laneQ b k x)) 0 :=
  sum_of_steps (N := 256) (fun n => (accs (F := Ideal) b c n).1 (ix1 x)) _ (start_at x) fun n h => by
    show (accs (F := Ideal) b c (n + 1)).1 (ix1 x) = _
    rw [accs_succ b c ⟨n, h⟩, trip_loss]

/-- A lane's count after all trips is the sum over the trips. -/
theorem accs_count (b : FVec Ideal S8x4096 .f32) (c : IVec S4096 32) (x : Fin 16) :
    (accs (F := Ideal) b c 256).2 (ix1 x) = ∑ k : Fin 256, Scalar.select (IntOp.cmpi .ne (clsRow (F := Ideal) c k (ix1 x)) 80#32) 1 0 :=
  sum_of_steps (N := 256) (fun n => (accs (F := Ideal) b c n).2 (ix1 x)) _ (start_at x) fun n h => by
    show (accs (F := Ideal) b c (n + 1)).2 (ix1 x) = _
    rw [accs_succ b c ⟨n, h⟩, trip_count]

/-- The first half of a worker's result is its losses. -/
theorem outOf_loss (B : FVec Ideal S8x131072 .f32) (T : IVec S131072 32) (w : Fin 32) (x : Fin 16) :
    outOf (F := Ideal) B T (ix3 w 0 x : S32x2x16.Idx) = (accs (F := Ideal) (boxTile B w) (clsTile T w) 256).1 (ix1 x) := by
  exact (if_pos rfl).trans (congrArg (accs (F := Ideal) (boxTile B w) (clsTile T w) 256).1 (by idx_ext))

/-- The second half of a worker's result is its counts. -/
theorem outOf_count (B : FVec Ideal S8x131072 .f32) (T : IVec S131072 32) (w : Fin 32) (x : Fin 16) :
    outOf (F := Ideal) B T (ix3 w 1 x : S32x2x16.Idx) = (accs (F := Ideal) (boxTile B w) (clsTile T w) 256).2 (ix1 x) := by
  exact (if_neg Nat.one_ne_zero).trans (congrArg (accs (F := Ideal) (boxTile B w) (clsTile T w) 256).2 (by idx_ext))

/-- The predictions' columns. -/
theorem boxes_P (P : FVec Ideal S8x16384x4 .f32) (Q : FVec Ideal S131072x4 .f32) (i : Fin 131072) :
    (fun r : Fin 4 => boxes (F := Ideal) P Q (ix2 ⟨r, by omega⟩ i : S8x131072.Idx)) = boxAt (shapeCast S131072x4 P shapeCasts_S8x16384x4_S131072x4) i := by
  funext r
  match r with
  | 0 => pointwise [boxes]
  | 1 => pointwise [boxes]
  | 2 => pointwise [boxes]
  | 3 => pointwise [boxes]

/-- The targets' columns. -/
theorem boxes_Q (P : FVec Ideal S8x16384x4 .f32) (Q : FVec Ideal S131072x4 .f32) (i : Fin 131072) :
    (fun r : Fin 4 => boxes (F := Ideal) P Q (ix2 ⟨r + 4, by omega⟩ i : S8x131072.Idx)) = boxAt Q i := by
  funext r
  match r with
  | 0 => pointwise [boxes]
  | 1 => pointwise [boxes]
  | 2 => pointwise [boxes]
  | 3 => pointwise [boxes]

/-- The sum of the tasks' losses, over the anchors. -/
theorem lossSum_at (P : FVec Ideal S8x16384x4 .f32) (T : IVec S131072 32) (Q : FVec Ideal S131072x4 .f32) :
    lossSum (F := Ideal) (outOf (boxes P Q) T) ix0
      = ∑ i : Fin 131072, Scalar.select (bit T i) (giou (boxAt (shapeCast S131072x4 P shapeCasts_S8x16384x4_S131072x4) i) (boxAt Q i)) 0 := by
  rw [sum_workers]
  pointwise [lossSum]
  refine Finset.sum_congr rfl fun w _ => Finset.sum_congr rfl fun x _ => ?_
  rw [outOf_loss, accs_loss]
  refine Finset.sum_congr rfl fun k _ => ?_
  rw [clsRow_at, ← boxes_P P Q, ← boxes_Q P Q]
  refine congrArg (fun v => Scalar.select _ v 0) (congrArg₂ giou (funext fun r => ?_) (funext fun r => ?_))
  · exact boxRow_at _ w ⟨r, by omega⟩ k x
  · exact boxRow_at _ w ⟨r + 4, by omega⟩ k x

/-- The divisor, over the anchors. -/
theorem divisor_at (P : FVec Ideal S8x16384x4 .f32) (T : IVec S131072 32) (Q : FVec Ideal S131072x4 .f32) :
    divisor (F := Ideal) (outOf (boxes P Q) T) ix0 = max (∑ i : Fin 131072, Scalar.select (bit T i) (1 : EReal) 0) 1 := by
  rw [sum_workers]
  pointwise [divisor]
  refine congrArg (fun s => max s 1) (Finset.sum_congr rfl fun w _ => Finset.sum_congr rfl fun x _ => ?_)
  rw [outOf_count, accs_count]
  refine Finset.sum_congr rfl fun k _ => ?_
  rw [clsRow_at]

end Cert.Proof.Math

end
-- ==== Proof.Math.RefTerms.lean ====
/-
  The reference's two results, written over its argument arrays in named steps: the foreground mask, the one-hot targets, the focal loss of a
  cell, the GIoU loss of a row, and the count they are divided by.
-/
module

public import proofs.«01_k».proof.Proof.Gen.ReferenceIdeal.Run
public import Idealize.ShloMosaic.PureOps.Ideal

@[expose] public section

set_option maxRecDepth 16384

noncomputable section

namespace Cert.Proof.Ref

open Cert.ReferenceIdeal Cert.ReferenceIdeal.Gen Idealize.ShloMosaic Idealize.ShloMosaic.TcCoe

/-- The scalar `b` (an f32 pattern) spread over the cells. -/
abbrev cells (b : BitVec 32) : FVec Ideal S131072x80 .f32 := broadcastInDim S131072x80 ![] bcast_S_S131072x80 (constant S_ .f32 b)

/-- A row's bit or class spread over the row's cells. -/
abbrev spread {α : Type} (v : S131072.Idx → α) : S131072x80.Idx → α :=
  broadcastInDim S131072x80 ![0, 1] bcast_S131072x1_S131072x80_0_1 (broadcastInDim S131072x1 ![0] bcast_S131072_S131072x1_0 v)

/-- Is the row's class at least zero? -/
def nonneg (T : IVec S131072 32) : IVec S131072 1 := cmpi .sge T (broadcastInDim S131072 ![] bcast_S_S131072 (constantI S_ 32 0#32))

/-- Is the row a foreground row? -/
def fg (T : IVec S131072 32) : IVec S131072 1 := andi (nonneg T) (cmpi .ne T (broadcastInDim S131072 ![] bcast_S_S131072 (constantI S_ 32 80#32)))

/-- The one-hot targets. -/
def hot (T : IVec S131072 32) : FVec Ideal S131072x80 .f32 :=
  select (spread (fg T)) (uitofp .f32 (cmpi .eq (spread T) (broadcastInDim S131072x80 ![0, 1] bcast_S1x80_S131072x80_0_1 (iotaInDim S1x80 32 1))))
    (broadcastInDim S131072x80 ![] bcast_S_S131072x80 (id (constant S_ .f32 0x00000000#32)))

/-- The predicted probabilities. -/
def prob (Y : FVec Ideal S131072x80 .f32) : FVec Ideal S131072x80 .f32 := Host.divf (cells 0x3F800000#32) (addf (cells 0x3F800000#32) (Host.exp (Host.negf Y)))

/-- The cross entropy of every cell. -/
def ce (Y H : FVec Ideal S131072x80 .f32) : FVec Ideal S131072x80 .f32 :=
  addf (subf (maximumf Y (cells 0x00000000#32)) (mulf Y H)) (Host.log1p (Host.exp (Host.negf (Host.absf Y))))

/-- The focal loss of every cell. -/
def focal (Y H : FVec Ideal S131072x80 .f32) : FVec Ideal S131072x80 .f32 :=
  mulf (addf (mulf (cells 0x3E800000#32) H) (mulf (cells 0x3F400000#32) (subf (cells 0x3F800000#32) H)))
    (mulf (ce Y H) (Host.powf (subf (cells 0x3F800000#32) (addf (mulf (prob Y) H) (mulf (subf (cells 0x3F800000#32) (prob Y)) (subf (cells 0x3F800000#32) H))))
      (cells 0x40000000#32)))

/-- The focal losses that are summed: zero in the rows that are not valid. -/
def clsCells (Y : FVec Ideal S131072x80 .f32) (M : IVec S8x16384 1) (T : IVec S131072 32) : FVec Ideal S131072x80 .f32 :=
  select (spread (andi (nonneg T) (shapeCast S131072 (noti M) shapeCasts_S8x16384_S131072))) (focal Y (hot T))
    (broadcastInDim S131072x80 ![] bcast_S_S131072x80 (id (constant S_ .f32 0x00000000#32)))

/-- The number of foreground rows, at least one. -/
def count (T : IVec S131072 32) : FVec Ideal S_ .f32 :=
  maximumf (sitofp .f32 (Host.reduce IntOp.addi (extui 32 (fg T) natLt_1_32) (constantI S_ 32 0#32) reducesTo_S131072_S_d0 h_S_)) (constant S_ .f32 0x3F800000#32)

/-- The class loss. -/
def clsRef (X : FVec Ideal S8x16384x80 .f32) (M : IVec S8x16384 1) (T : IVec S131072 32) : FVec Ideal S_ .f32 :=
  Host.divf (Host.reduceAdd (clsCells (shapeCast S131072x80 X shapeCasts_S8x16384x80_S131072x80) M T) (constant S_ .f32 0x00000000#32) reducesTo_S131072x80_S_d0_1 h_S_) (count T)

/-- The four columns of the boxes, and the two halves of a box. -/
abbrev col0 (A : FVec Ideal S131072x4 .f32) : FVec Ideal S131072 .f32 := shapeCast S131072 (extractStridedSlice S131072x1 ![0, 0] A slices_S131072x4_S131072x1_0_0) shapeCasts_S131072x1_S131072
abbrev col1 (A : FVec Ideal S131072x4 .f32) : FVec Ideal S131072 .f32 := shapeCast S131072 (extractStridedSlice S131072x1 ![0, 1] A slices_S131072x4_S131072x1_0_1) shapeCasts_S131072x1_S131072
abbrev col2 (A : FVec Ideal S131072x4 .f32) : FVec Ideal S131072 .f32 := shapeCast S131072 (extractStridedSlice S131072x1 ![0, 2] A slices_S131072x4_S131072x1_0_2) shapeCasts_S131072x1_S131072
abbrev col3 (A : FVec Ideal S131072x4 .f32) : FVec Ideal S131072 .f32 := shapeCast S131072 (extractStridedSlice S131072x1 ![0, 3] A slices_S131072x4_S131072x1_0_3) shapeCasts_S131072x1_S131072
/-- The boxes' left and top, and their right and bottom. -/
abbrev lo (A : FVec Ideal S131072x4 .f32) : FVec Ideal S131072x2 .f32 := extractStridedSlice S131072x2 ![0, 0] A slices_S131072x4_S131072x2_0_0
abbrev hi (A : FVec Ideal S131072x4 .f32) : FVec Ideal S131072x2 .f32 := extractStridedSlice S131072x2 ![0, 2] A slices_S131072x4_S131072x2_0_2

/-- Widths and heights, no less than zero, and their product. -/
def clip (W : FVec Ideal S131072x2 .f32) : FVec Ideal S131072x2 .f32 :=
  maximumf (broadcastInDim S131072x2 ![] bcast_S_S131072x2 (id (constant S_ .f32 0x00000000#32))) W
/-- The product of the two sides, each at least zero. -/
def extent (W : FVec Ideal S131072x2 .f32) : FVec Ideal S131072 .f32 :=
  mulf (shapeCast S131072 (extractStridedSlice S131072x1 ![0, 0] (clip W) slices_S131072x2_S131072x1_0_0) shapeCasts_S131072x1_S131072)
    (shapeCast S131072 (extractStridedSlice S131072x1 ![0, 1] (clip W) slices_S131072x2_S131072x1_0_1) shapeCasts_S131072x1_S131072)

/-- Intersection, enclosing box, areas and union of every row's two boxes. -/
def inter (A B : FVec Ideal S131072x4 .f32) : FVec Ideal S131072 .f32 := extent (subf (minimumf (hi A) (hi B)) (maximumf (lo A) (lo B)))
/-- The area of the smallest box around both, the area of a box, and the area that two boxes cover. -/
def hull (A B : FVec Ideal S131072x4 .f32) : FVec Ideal S131072 .f32 := extent (subf (maximumf (hi A) (hi B)) (minimumf (lo A) (lo B)))
def area (A : FVec Ideal S131072x4 .f32) : FVec Ideal S131072 .f32 := mulf (subf (col2 A) (col0 A)) (subf (col3 A) (col1 A))
def union (A B : FVec Ideal S131072x4 .f32) : FVec Ideal S131072 .f32 := subf (addf (area A) (area B)) (inter A B)

/-- The box losses that are summed: one minus the GIoU of a foreground row, zero in the others. -/
def boxRows (A B : FVec Ideal S131072x4 .f32) (T : IVec S131072 32) : FVec Ideal S131072 .f32 :=
  select (fg T) (subf (broadcastInDim S131072 ![] bcast_S_S131072 (constant S_ .f32 0x3F800000#32))
      (subf (Host.divf (inter A B) (union A B)) (Host.divf (subf (hull A B) (union A B)) (hull A B))))
    (broadcastInDim S131072 ![] bcast_S_S131072 (id (constant S_ .f32 0x00000000#32)))

/-- The box loss. -/
def boxRef (P : FVec Ideal S8x16384x4 .f32) (T : IVec S131072 32) (Q : FVec Ideal S131072x4 .f32) : FVec Ideal S_ .f32 :=
  Host.divf (Host.reduceAdd (boxRows (shapeCast S131072x4 P shapeCasts_S8x16384x4_S131072x4) Q T) (constant S_ .f32 0x00000000#32) reducesTo_S131072_S_d0 h_S_) (count T)

variable (m : (ℓ : Loc nD τ sig) → Buf (Elt Ideal) ℓ) (c : Dev nD)

/-- The reference program's first result is `clsRef` of its arguments. -/
theorem out0_eq : Value.res_out0 m c = clsRef (m ((c.tc : Thread nD τ).loc main_arg0)) (m ((c.tc : Thread nD τ).loc main_arg2)) (m ((c.tc : Thread nD τ).loc main_arg3)) := by
  unfold Value.res_out0 Value.res_main_v57
  rfl

/-- The reference program's second result is `boxRef` of its arguments. -/
theorem out1_eq : Value.res_out1 m c = boxRef (m ((c.tc : Thread nD τ).loc main_arg1)) (m ((c.tc : Thread nD τ).loc main_arg3)) (m ((c.tc : Thread nD τ).loc main_arg4)) := by
  unfold Value.res_out1 Value.res_main_v116
  rfl

end Cert.Proof.Ref

end
-- ==== Proof.Math.RefSums.lean ====
/-
  The reference's three sums, over the anchors, for classes that are not negative and a clear mask.
-/
module

public import proofs.«01_k».proof.Proof.Math.RefTerms
public import proofs.«01_k».proof.Proof.Math.Cell
public import proofs.«01_k».proof.Proof.Math.Giou
public import Idealize.ShloMosaic.Lib.IndicatorCount

@[expose] public section

set_option maxRecDepth 16384

noncomputable section

namespace Cert.Proof.Ref

open Cert.ReferenceIdeal Cert.ReferenceIdeal.Gen Idealize.ShloMosaic Cert.Proof.Math

variable {T : IVec S131072 32} (hT : ∀ i : Fin 131072, IntOp.cmpi .sge (T (ix1 i)) 0#32 = 1#1)

include hT in
/-- An anchor counts when its class is not the background. -/
theorem fg_at (i : Fin 131072) : fg T (ix1 i : S131072.Idx) = IntOp.cmpi .ne (T (ix1 i)) 80#32 := by
  pointwise [fg, nonneg]
  rw [hT i]
  generalize IntOp.cmpi .ne (T (ix1 i)) 80#32 = b
  revert b
  decide

include hT in
/-- The box loss of an anchor. -/
theorem boxRows_at (A B : FVec Ideal S131072x4 .f32) (i : Fin 131072) :
    boxRows A B T (ix1 i : S131072.Idx)
      = Scalar.select (IntOp.cmpi .ne (T (ix1 i)) 80#32) (giou (fun r => A (ix2 i r)) (fun r => B (ix2 i r))) 0 := by
  have hz : (id (constant S_ .f32 0#32) : FVec Ideal S_ .f32) ix0 = 0 := Ideal.ofBits_zero_f32
  pointwise [boxRows, union, area, hull, inter, extent, clip]
  rw [fg_at hT, hz]
  simp only [max_comm (0 : EReal)]
  rfl

/-- None of the 80 classes is the background. -/
theorem ne_bg : ∀ l : Fin 80, (BitVec.ofNat 32 l.val : BitVec 32) ≠ 80#32 := by decide

/-- The target of a cell: one at the anchor's class, zero elsewhere. -/
theorem hot_at (hT : ∀ i : Fin 131072, IntOp.cmpi .sge (T (ix1 i)) 0#32 = 1#1) (i : Fin 131072) (l : Fin 80) :
    hot T (ix2 i l : S131072x80.Idx) = if T (ix1 i) = BitVec.ofNat 32 l.val then (1 : EReal) else 0 := by
  have hz : (id (constant S_ .f32 0#32) : FVec Ideal S_ .f32) ix0 = 0 := Ideal.ofBits_zero_f32
  pointwise [hot, fg, nonneg, spread]
  rw [hT i, hz]
  by_cases h : T (ix1 i) = BitVec.ofNat 32 l.val
  · have h1 : IntOp.cmpi .ne (T (ix1 i)) 80#32 = 1#1 := by
      rw [h]; exact congrArg BitVec.ofBool (bne_iff_ne.2 (ne_bg l))
    have h2 : IntOp.cmpi .eq (T (ix1 i)) (BitVec.ofNat 32 l.val) = 1#1 := congrArg BitVec.ofBool (beq_iff_eq.2 h)
    rw [h1, h2, if_pos h]
    show (((1#1 : BitVec 1).toNat : ℝ) : EReal) = 1
    simp
  · have h2 : IntOp.cmpi .eq (T (ix1 i)) (BitVec.ofNat 32 l.val) = 0#1 := congrArg BitVec.ofBool (beq_eq_false_iff_ne.2 h)
    rw [h2, if_neg h]
    have h3 : (FloatOps.uitofp .f32 (0#1 : BitVec 1) : Ideal .f32) = 0 := by
      show (((0#1 : BitVec 1).toNat : ℝ) : EReal) = 0
      simp
    rw [h3]
    unfold Scalar.select
    split <;> rfl

/-- The class loss of a cell from its logit and its target. -/
theorem focal_at (Y H : FVec Ideal S131072x80 .f32) (i : Fin 131072) (l : Fin 80) :
    focal Y H (ix2 i l : S131072x80.Idx) = cellR wPos wNeg (H (ix2 i l)) (Y (ix2 i l)) := by
  pointwise [focal, ce, prob, cells]
  rfl

/-- The class loss of a cell. -/
theorem clsCells_at (hT : ∀ i : Fin 131072, IntOp.cmpi .sge (T (ix1 i)) 0#32 = 1#1) (Y : FVec Ideal S131072x80 .f32) (M : IVec S8x16384 1)
    (hM : ∀ (r : Fin 8) (s : Fin 16384), M (ix2 r s) = 0#1) (i : Fin 131072) (l : Fin 80) :
    clsCells Y M T (ix2 i l : S131072x80.Idx) = cellR wPos wNeg (hot T (ix2 i l)) (Y (ix2 i l)) := by
  pointwise [clsCells, nonneg, spread]
  rw [hT i, hM, focal_at]
  rfl

/-- A count of anchors as a signed 32-bit word. -/
theorem toInt_card (n : ℕ) (h : n ≤ 131072) : (BitVec.ofNat 32 n).toInt = n := by
  have hn : (BitVec.ofNat 32 n).toNat = n := by
    rw [BitVec.toNat_ofNat]; exact Nat.mod_eq_of_lt (by omega)
  rw [BitVec.toInt_eq_toNat_of_lt (by rw [hn]; omega), hn]

/-- A sum of ones over the anchors whose bit is set is the number of these anchors. -/
theorem sum_select_one (b : Fin 131072 → BitVec 1) :
    ∑ i, Scalar.select (b i) (1 : EReal) 0 = ((((Finset.univ.filter fun i => b i = 1#1).card : ℕ) : ℝ) : EReal) := by
  have h : ∀ i, Scalar.select (b i) (1 : EReal) 0 = if b i = 1#1 then (1 : EReal) else 0 := fun i => by
    unfold Scalar.select; rfl
  simp only [h, Finset.sum_ite, Finset.sum_const_zero, add_zero, Finset.sum_const]
  rw [nsmul_one]
  rfl

include hT in
/-- The number of anchors whose class is not the background, at least one. -/
theorem count_at : count T ix0 = max (∑ i : Fin 131072, Scalar.select (IntOp.cmpi .ne (T (ix1 i)) 80#32) (1 : EReal) 0) 1 := by
  pointwise [count]
  rw [IndicatorCount.fold_addi_setWidth_eq_card]
  simp only [fg_at hT]
  rw [sum_select_one]
  refine congrArg (fun s => max s (1 : EReal)) ?_
  show (((BitVec.ofNat 32 _).toInt : ℝ) : EReal) = _
  rw [toInt_card _ ((Finset.card_le_univ _).trans_eq (Fintype.card_fin _))]
  rw [Int.cast_natCast]

end Cert.Proof.Ref

end
-- ==== Proof.Math.Equation.lean ====
/-
  The kernel's two results are the reference's, on extended reals, for classes that are not negative and a clear mask.
-/
module

public import proofs.«01_k».proof.Proof.Math.KernelSums
public import proofs.«01_k».proof.Proof.Math.RefSums

@[expose] public section

set_option maxRecDepth 16384

noncomputable section

namespace Cert.Proof.Math

open Cert.ReferenceIdeal Cert.ReferenceIdeal.Gen Idealize.ShloMosaic

/-- A scalar is its one entry. -/
theorem scalar_ext {x y : FVec Ideal S_ .f32} (h : x ix0 = y ix0) : x = y :=
  funext fun j => by
    have hj : j = ix0 := funext fun k => k.elim0
    rw [hj, h]

/-- The bit of an equality, read with its sides exchanged. -/
theorem cmpi_eq_swap (a b : BitVec 32) : IntOp.cmpi .eq a b = if b = a then 1#1 else 0#1 := by
  by_cases h : b = a
  · rw [if_pos h, h]; exact congrArg BitVec.ofBool (beq_self_eq_true a)
  · rw [if_neg h]; exact congrArg BitVec.ofBool (beq_eq_false_iff_ne.2 fun e => h e.symm)

/-- The two focal formulas agree at every cell, whether or not the anchor's class is the cell's. -/
theorem cell_eq (a a' x : EReal) (t l : BitVec 32) :
    cellK a a' (IntOp.cmpi .eq l t) x = cellR a a' (if t = l then (1 : EReal) else 0) x := by
  rw [cmpi_eq_swap]
  by_cases h : t = l
  · rw [if_pos h, if_pos h, cell_one]
  · rw [if_neg h, if_neg h, cell_zero]

variable (X : FVec Ideal S8x16384x80 .f32) (P : FVec Ideal S8x16384x4 .f32) (M : IVec S8x16384 1) (T : IVec S131072 32) (Q : FVec Ideal S131072x4 .f32)
  (hT : ∀ i : Fin 131072, IntOp.cmpi .sge (T (ix1 i)) 0#32 = 1#1) (hM : ∀ (r : Fin 8) (s : Fin 16384), M (ix2 r s) = 0#1)

include hT hM in
/-- The class losses are equal. -/
theorem cls_eq : PI.clsLoss (F := Ideal) X P T Q = Ref.clsRef X M T := by
  refine scalar_ext ?_
  pointwise [PI.clsLoss, Ref.clsRef]
  rw [total_at, divisor_at, Ref.count_at hT]
  simp only [Ref.clsCells_at hT _ _ hM, Ref.hot_at hT, cell_eq]

include hT in
/-- The box losses are equal. -/
theorem box_eq : PI.boxLoss (F := Ideal) P T Q = Ref.boxRef P T Q := by
  refine scalar_ext ?_
  pointwise [PI.boxLoss, Ref.boxRef]
  rw [lossSum_at, divisor_at, Ref.count_at hT]
  simp only [Ref.boxRows_at hT]

end Cert.Proof.Math

end
-- ==== Proof.lean ====
/-
  The certificate: the three programs run and keep their arguments, the idealized kernel is the kernel, and the kernel's two results are the
  reference's on extended reals.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_range
public import proofs.«01_k».proof.Proof.Gen.ReferenceIdeal.Run
public import proofs.«01_k».proof.Proof.P.Results
public import proofs.«01_k».proof.Proof.PI.Results
public import proofs.«01_k».proof.Proof.Math.Pre
public import proofs.«01_k».proof.Proof.Math.Equation

@[expose] public section

set_option maxRecDepth 16384

noncomputable section

namespace Cert.Proof

open Idealize.ShloMosaic Idealize.SL.Sem

/-- A statement of five named members from the same of every member of their list. -/
theorem five {α : Type} {a b c d e : α} {p : α → Prop} (h : ∀ x ∈ [a, b, c, d, e], p x) : p a ∧ p b ∧ p c ∧ p d ∧ p e :=
  ⟨h a (by simp), h b (by simp), h c (by simp), h d (by simp), h e (by simp)⟩

/-- The kernel runs, keeps its arguments and leaves every semaphore at zero. -/
theorem frame_kernel : Cert.quiescent_Kernel := fun m g _ =>
  (θ_run Cert.Kernel.defs _ _).mono (fun _ h => ⟨fun c => five (h.1 c).2, h.2⟩) (P.run_results (F := Bits) m g)

/-- So does the idealized kernel. -/
theorem frame_ideal : Cert.quiescent_KernelIdeal := fun m g _ =>
  (θ_run Cert.KernelIdeal.defs _ _).mono (fun _ h => ⟨fun c => five (h.1 c).2, h.2⟩) (PI.run_results (F := Ideal) m g)

/-- So does the reference, which has no semaphore. -/
theorem frame_reference : Cert.quiescent_ReferenceIdeal := fun m g _ =>
  (θ_run Cert.ReferenceIdeal.defs _ _).mono (fun r h => ⟨fun c => (h c).2.2, sem_eq_zero_of_no_sems (by decide) r.2⟩)
    (Cert.ReferenceIdeal.Value.run (F := Ideal) m g)

/-- From the same arguments, no class negative and the mask clear, the idealized kernel and the reference leave the same two results. -/
theorem results_agree : Cert.algebraic_KernelIdeal_ReferenceIdeal_pre_in_range := by
  intro m g m' g' hpre hargs
  refine ⟨_, _, (θ_run Cert.KernelIdeal.defs _ _).mono (fun _ h c => ⟨(h.1 c).1.1, (h.1 c).1.2, five (h.1 c).2⟩) (PI.run_results (F := Ideal) m g),
    (θ_run Cert.ReferenceIdeal.defs _ _).mono (fun _ h c => ⟨(h c).1.trans ?_, (h c).2.1.trans ?_, (h c).2.2⟩)
      (Cert.ReferenceIdeal.Value.run (F := Ideal) m' g')⟩
  · obtain ⟨h0, h1, h2, h3, h4⟩ := hargs c
    obtain ⟨hT, hM⟩ := Math.of_in_range _ _ _ _ _ (hpre c)
    refine (Ref.out0_eq m' c).trans ?_
    rw [h0, h2, h3]
    exact (Math.cls_eq _ _ _ _ _ hT hM).symm
  · obtain ⟨h0, h1, h2, h3, h4⟩ := hargs c
    obtain ⟨hT, hM⟩ := Math.of_in_range _ _ _ _ _ (hpre c)
    refine (Ref.out1_eq m' c).trans ?_
    rw [h1, h3, h4]
    exact (Math.box_eq _ _ _ hT).symm

/-- Every claim. -/
theorem claim : Cert.Claim :=
  ⟨Cert.Kernel.Gen.facts, Cert.KernelIdeal.Gen.facts, Cert.ReferenceIdeal.Gen.facts, Cert.Pre_in_range.Gen.facts,
    frame_kernel, frame_ideal, fun m g _ => frame_ideal m g trivial, frame_reference, fun m g _ => frame_reference m g trivial, trivial, results_agree⟩

end Cert.Proof

end
